-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_distinct [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "sixth" .f32 0x3E2AAAAB#32 ((1 / 6 : ℝ) : EReal)

def algebraic_KernelIdeal_ReferenceIdeal_pre_distinct [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_distinct : Cert.Pre_distinct.Facts),
    quiescent_Kernel (hKernel := hKernel)
    ∧ quiescent_KernelIdeal (hKernelIdeal := hKernelIdeal)
    ∧ quiescent_KernelIdeal_pre_distinct (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ preserves_Kernel_KernelIdeal
    ∧ algebraic_KernelIdeal_ReferenceIdeal_pre_distinct (hKernelIdeal := hKernelIdeal) (hReferenceIdeal := hReferenceIdeal) (hPre_distinct := hPre_distinct)
-- ==== Pre_distinct.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x18 : Shape := ⟨3, ![4, 4096, 18]⟩
abbrev S4x4096x17 : Shape := ⟨3, ![4, 4096, 17]⟩

class Facts : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  sliceFits_S4x4096x4096_S4x4096x18 : S4x4096x4096.Slices (fun _ => 0) S4x4096x18
  slices_S4x4096x18_S4x4096x17_0_0_1 : S4x4096x18.Slices ![0, 0, 1] S4x4096x17
  slices_S4x4096x18_S4x4096x17_0_0_0 : S4x4096x18.Slices ![0, 0, 0] S4x4096x17
  bcast_S_S4x4096x17 : S_.BroadcastsInDim S4x4096x17 (![] : Fin 0 → Fin S4x4096x17.rank)
  reducesTo_S4x4096x17_S4x4096_d2 : S4x4096x17.ReducesTo [2] S4x4096
  bcast_S_S4x4096 : S_.BroadcastsInDim S4x4096 (![] : Fin 0 → Fin S4x4096.rank)
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf
def fn_where {F : FTy → Type} [FloatOps F] (arg0 : IVec S4x4096x17 1) (arg1 : FVec F S_ .f32) (arg2 : FVec F S_ .f32) : FVec F S4x4096x17 .f32 :=
  let v0 : FVec F S4x4096x17 .f32 := broadcastInDim S4x4096x17 ![] bcast_S_S4x4096x17 arg1
  let v1 : FVec F S4x4096x17 .f32 := broadcastInDim S4x4096x17 ![] bcast_S_S4x4096x17 arg2
  let v2 : FVec F S4x4096x17 .f32 := select arg0 v0 v1
  v2

def fn_part1 {F : FTy → Type} [FloatOps F] (main_v16 : FVec F S4x4096x17 .f32) (main_cst_3 : FVec F S_ .f32) : IVec S_ 1 :=
  let main_v17 : FVec F S4x4096 .f32 := (fun x v => Host.reduceAdd x v reducesTo_S4x4096x17_S4x4096_d2 h_S_) main_v16 main_cst_3
  let main_cst_4 : FVec F S_ .f32 := constant S_ .f32 0x3F800000#32
  let main_v18 : FVec F S4x4096 .f32 := broadcastInDim S4x4096 ![] bcast_S_S4x4096 main_cst_4
  let main_v19 : IVec S4x4096 1 := cmpf .ole main_v17 main_v18
  let main_c : IVec S_ 1 := constantI S_ 1 1#1
  let main_v20 : IVec S_ 1 := (fun x v => Host.reduce IntOp.andi x v reducesTo_S4x4096_S_d0_1 h_S_) main_v19 main_c
  main_v20

def fn {F : FTy → Type} [FloatOps F] (main_arg0 : FVec F S4x4096x3 .f32) : IVec S_ 1 :=
  let main_v0 : FVec F S4x4096x3 .f32 := mulf main_arg0 main_arg0
  let main_cst : FVec F S_ .f32 := constant S_ .f32 0x00000000#32
  let main_v1 : FVec F S4x4096 .f32 := (fun x v => Host.reduceAdd x v reducesTo_S4x4096x3_S4x4096_d2 h_S_) main_v0 main_cst
  let main_v2 : FVec F S4x4096x1 .f32 := broadcastInDim S4x4096x1 ![0, 1] bcast_S4x4096_S4x4096x1_0_1 main_v1
  let main_v3 : FVec F S4x1x4096 .f32 := broadcastInDim S4x1x4096 ![0, 2] bcast_S4x4096_S4x1x4096_0_2 main_v1
  let main_v4 : FVec F S4x4096x4096 .f32 := broadcastInDim S4x4096x4096 ![0, 1, 2] bcast_S4x4096x1_S4x4096x4096_0_1_2 main_v2
  let main_v5 : FVec F S4x4096x4096 .f32 := broadcastInDim S4x4096x4096 ![0, 1, 2] bcast_S4x1x4096_S4x4096x4096_0_1_2 main_v3
  let main_v6 : FVec F S4x4096x4096 .f32 := addf main_v4 main_v5
  let main_v7 : FVec F S4x4096x4096 .f32 := (fun l r => Host.dotGeneral dot_S4x4096x3_S4x4096x3_S4x4096x4096_2_2_1_1_0_0 none l r) main_arg0 main_arg0
  let main_cst_0 : FVec F S_ .f32 := constant S_ .f32 0x40000000#32
  let main_v8 : FVec F S4x4096x4096 .f32 := broadcastInDim S4x4096x4096 ![] bcast_S_S4x4096x4096 main_cst_0
  let main_v9 : FVec F S4x4096x4096 .f32 := mulf main_v8 main_v7
  let main_v10 : FVec F S4x4096x4096 .f32 := subf main_v6 main_v9
  let main_v11 : FVec F S4x4096x4096 .f32 := Host.negf main_v10
  let main_values : FVec F S4x4096x18 .f32 := (fun x => (Host.topK S4x4096x18 2 (FloatOps.cmpfTotal .gt) x sliceFits_S4x4096x4096_S4x4096x18).1) main_v11
  let main_indices : IVec S4x4096x18 32 := (fun x => (Host.topK S4x4096x18 2 (FloatOps.cmpfTotal .gt) x sliceFits_S4x4096x4096_S4x4096x18).2) main_v11
  let main_v12 : FVec F S4x4096x17 .f32 := (extractStridedSlice S4x4096x17 ![0, 0, 1] · slices_S4x4096x18_S4x4096x17_0_0_1) main_values
  let main_v13 : FVec F S4x4096x17 .f32 := (extractStridedSlice S4x4096x17 ![0, 0, 0] · slices_S4x4096x18_S4x4096x17_0_0_0) main_values
  let main_v14 : IVec S4x4096x17 1 := cmpf .olt main_v12 main_v13
  let main_cst_1 : FVec F S_ .f32 := constant S_ .f32 0x00000000#32
  let main_cst_2 : FVec F S_ .f32 := constant S_ .f32 0x3F800000#32
  let main_v15 : FVec F S4x4096x17 .f32 := fn_where (F := F) main_v14 main_cst_1 main_cst_2
  let main_v16 : FVec F S4x4096x17 .f32 := id main_v15
  let main_cst_3 : FVec F S_ .f32 := constant S_ .f32 0x00000000#32
  fn_part1 (F := F) main_v16 main_cst_3
-- ==== Kernel.lean ====
abbrev S4x4096x3 : Shape := ⟨3, ![4, 4096, 3]⟩
abbrev S4x4096x1 : Shape := ⟨3, ![4, 4096, 1]⟩
abbrev S4x4096x12 : Shape := ⟨3, ![4, 4096, 12]⟩
abbrev S4x3x4096 : Shape := ⟨3, ![4, 3, 4096]⟩
abbrev S_ : Shape := ⟨0, ![]⟩
abbrev S4x4096 : Shape := ⟨2, ![4, 4096]⟩
abbrev S4x1x4096 : Shape := ⟨3, ![4, 1, 4096]⟩
abbrev S4x8x1x512 : Shape := ⟨4, ![4, 8, 1, 512]⟩
abbrev S1x3x4096 : Shape := ⟨3, ![1, 3, 4096]⟩
abbrev S1x4096x12 : Shape := ⟨3, ![1, 4096, 12]⟩
abbrev S1x1x4096 : Shape := ⟨3, ![1, 1, 4096]⟩
abbrev S1x4096x1 : Shape := ⟨3, ![1, 4096, 1]⟩
abbrev S1x1x1x512 : Shape := ⟨4, ![1, 1, 1, 512]⟩
abbrev S3x4096 : Shape := ⟨2, ![3, 4096]⟩
abbrev S1x512x3 : Shape := ⟨3, ![1, 512, 3]⟩
abbrev S512x3 : Shape := ⟨2, ![512, 3]⟩
abbrev S1x4096 : Shape := ⟨2, ![1, 4096]⟩
abbrev S1x512x1 : Shape := ⟨3, ![1, 512, 1]⟩
abbrev S512x1 : Shape := ⟨2, ![512, 1]⟩
abbrev S512x4096 : Shape := ⟨2, ![512, 4096]⟩
abbrev S512 : Shape := ⟨1, ![512]⟩
abbrev S4096x12 : Shape := ⟨2, ![4096, 12]⟩
abbrev S12x512 : Shape := ⟨2, ![12, 512]⟩
abbrev S1x512 : Shape := ⟨2, ![1, 512]⟩

abbrev nBuf : Space → Nat
  | .hbm => 18
  | .vmem => 10
  | .smem => 0
  | _ => 0

abbrev bufTy : (tb : Table) → Fin (tcTables nBuf tb) → BufTy
  | .hbm, ⟨0, _⟩ => ⟨S4x4096x3, .f32⟩
  | .hbm, ⟨1, _⟩ => ⟨S4x4096x1, .f32⟩
  | .hbm, ⟨2, _⟩ => ⟨S4x4096x3, .f32⟩
  | .hbm, ⟨3, _⟩ => ⟨S4x4096x3, .f32⟩
  | .hbm, ⟨4, _⟩ => ⟨S4x4096x1, .f32⟩
  | .hbm, ⟨5, _⟩ => ⟨S4x4096x3, .f32⟩
  | .hbm, ⟨6, _⟩ => ⟨S4x4096x3, .f32⟩
  | .hbm, ⟨7, _⟩ => ⟨S4x4096x1, .f32⟩
  | .hbm, ⟨8, _⟩ => ⟨S4x4096x3, .f32⟩
  | .hbm, ⟨9, _⟩ => ⟨S4x4096x3, .f32⟩
  | .hbm, ⟨10, _⟩ => ⟨S4x4096x12, .f32⟩
  | .hbm, ⟨11, _⟩ => ⟨S4x3x4096, .f32⟩
  | .hbm, ⟨12, _⟩ => ⟨S4x4096x3, .f32⟩
  | .hbm, ⟨13, _⟩ => ⟨S_, .f32⟩
  | .hbm, ⟨14, _⟩ => ⟨S4x4096, .f32⟩
  | .hbm, ⟨15, _⟩ => ⟨S4x1x4096, .f32⟩
  | .hbm, ⟨16, _⟩ => ⟨S4x4096x1, .f32⟩
  | .hbm, ⟨17, _⟩ => ⟨S4x8x1x512, .f32⟩
  | .local _ .vmem, ⟨0, _⟩ => ⟨S1x3x4096, .f32⟩
  | .local _ .vmem, ⟨1, _⟩ => ⟨S1x3x4096, .f32⟩
  | .local _ .vmem, ⟨2, _⟩ => ⟨S1x4096x12, .f32⟩
  | .local _ .vmem, ⟨3, _⟩ => ⟨S1x4096x12, .f32⟩
  | .local _ .vmem, ⟨4, _⟩ => ⟨S1x1x4096, .f32⟩
  | .local _ .vmem, ⟨5, _⟩ => ⟨S1x1x4096, .f32⟩
  | .local _ .vmem, ⟨6, _⟩ => ⟨S1x4096x1, .f32⟩
  | .local _ .vmem, ⟨7, _⟩ => ⟨S1x4096x1, .f32⟩
  | .local _ .vmem, ⟨8, _⟩ => ⟨S1x1x1x512, .f32⟩
  | .local _ .vmem, ⟨9, _⟩ => ⟨S1x1x1x512, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0_2 : Index := 0#32
  let arg1 : BitVec 32 := BitVec.ofNat 32 (i 1).val
  let c512_i32 : BitVec 32 := 512#32
  let v2 : BitVec 32 := Scalar.muli arg1 c512_i32
  let v3 : Index := Scalar.indexCast v2
  let c0_3 : Index := 0#32
  ![0, v3.toNat, 0]
def k0_off2 (i : grid0.Coords) : Fin 3 → Nat :=
  let c0_8 : Index := 0#32
  let arg1 : BitVec 32 := BitVec.ofNat 32 (i 1).val
  let c512_i32_7 : BitVec 32 := 512#32
  let v8 : BitVec 32 := Scalar.muli arg1 c512_i32_7
  let v9 : Index := Scalar.indexCast v8
  let c0_9 : Index := 0#32
  ![0, v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "sixth" => some ((1 / 6 : ℝ) : EReal)
  | "third" => some ((1 / 3 : ℝ) : EReal)
  | _ => none
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x16 : Shape := ⟨3, ![4, 4096, 16]⟩
abbrev S4x4096x16x1 : Shape := ⟨4, ![4, 4096, 16, 1]⟩
abbrev S4x4096x16x3 : Shape := ⟨4, ![4, 4096, 16, 3]⟩
abbrev S4x4096x1x3 : Shape := ⟨4, ![4, 4096, 1, 3]⟩
abbrev S4x4096x3x3 : Shape := ⟨4, ![4, 4096, 3, 3]⟩
abbrev S3x3 : Shape := ⟨2, ![3, 3]⟩
abbrev S4x4096x1x1 : Shape := ⟨4, ![4, 4096, 1, 1]⟩
abbrev S1x1x3x3 : Shape := ⟨4, ![1, 1, 3, 3]⟩
abbrev S1x4x4096 : Shape := ⟨3, ![1, 4, 4096]⟩
abbrev S2x4x4096 : Shape := ⟨3, ![2, 4, 4096]⟩
abbrev S4x8x1x512 : Shape := ⟨4, ![4, 8, 1, 512]⟩

abbrev nBuf : Space → Nat
  | .hbm => 279
  | .vmem => 0
  | .smem => 0
  | _ => 0

abbrev hbmTy0_0 (i : Nat) : BufTy := match i % 128 with
  | 0 => ⟨S4x4096x3, .f32⟩
  | 1 => ⟨S4x4096x3, .f32⟩
  | 2 => ⟨S_, .f32⟩
  | 3 => ⟨S4x4096, .f32⟩
  | 4 => ⟨S4x4096x1, .f32⟩
  | 5 => ⟨S4x1x4096, .f32⟩
  | 6 => ⟨S4x4096x4096, .f32⟩
  | 7 => ⟨S4x4096x4096, .f32⟩
  | 8 => ⟨S4x4096x4096, .f32⟩
  | 9 => ⟨S4x4096x4096, .f32⟩
  | 10 => ⟨S_, .f32⟩
  | 11 => ⟨S4x4096x4096, .f32⟩
  | 12 => ⟨S4x4096x4096, .f32⟩
  | 13 => ⟨S4x4096x4096, .f32⟩
  | 14 => ⟨S4x4096x4096, .f32⟩
  | 15 => ⟨S4x4096x16, .f32⟩
  | 16 => ⟨S4x4096x16, .i32⟩
  | 17 => ⟨S_, .i32⟩
  | 18 => ⟨S4x4096x16, .i32⟩
  | 19 => ⟨S4x4096x16, .i1⟩
  | 20 => ⟨S_, .i32⟩
  | 21 => ⟨S4x4096x16, .i32⟩
  | 22 => ⟨S4x4096x16, .i32⟩
  | 23 => ⟨S4x4096x16, .i32⟩
  | 24 => ⟨S4x4096x16x1, .i32⟩
  | 25 => ⟨S4x4096x16x3, .f32⟩
  | 26 => ⟨S_, .f32⟩
  | 27 => ⟨S4x4096x3, .f32⟩
  | 28 => ⟨S4x4096x1x3, .f32⟩
  | 29 => ⟨S_, .f32⟩
  | 30 => ⟨S4x4096x1x3, .f32⟩
  | 31 => ⟨S4x4096x1x3, .f32⟩
  | 32 => ⟨S4x4096x16x3, .f32⟩
  | 33 => ⟨S4x4096x16x3, .f32⟩
  | 34 => ⟨S4x4096x3x3, .f32⟩
  | 35 => ⟨S_, .f32⟩
  | 36 => ⟨S4x4096x3x3, .f32⟩
  | 37 => ⟨S4x4096x3x3, .f32⟩
  | 38 => ⟨S3x3, .i32⟩
  | 39 => ⟨S3x3, .i32⟩
  | 40 => ⟨S_, .i32⟩
  | 41 => ⟨S3x3, .i32⟩
  | 42 => ⟨S3x3, .i32⟩
  | 43 => ⟨S3x3, .i1⟩
  | 44 => ⟨S_, .f32⟩
  | 45 => ⟨S4x4096x3x3, .f32⟩
  | 46 => ⟨S4x4096x3x3, .i1⟩
  | 47 => ⟨S4x4096x3x3, .f32⟩
  | 48 => ⟨S_, .f32⟩
  | 49 => ⟨S4x4096, .f32⟩
  | 50 => ⟨S_, .f32⟩
  | 51 => ⟨S4x4096, .f32⟩
  | 52 => ⟨S4x4096, .f32⟩
  | 53 => ⟨S4x4096x1x1, .f32⟩
  | 54 => ⟨S3x3, .i32⟩
  | 55 => ⟨S3x3, .i32⟩
  | 56 => ⟨S_, .i32⟩
  | 57 => ⟨S3x3, .i32⟩
  | 58 => ⟨S3x3, .i32⟩
  | 59 => ⟨S3x3, .i1⟩
  | 60 => ⟨S3x3, .f32⟩
  | 61 => ⟨S1x1x3x3, .f32⟩
  | 62 => ⟨S4x4096x3x3, .f32⟩
  | 63 => ⟨S4x4096x3x3, .f32⟩
  | 64 => ⟨S4x4096x3x3, .f32⟩
  | 65 => ⟨S4x4096x3x3, .f32⟩
  | 66 => ⟨S4x4096x3x3, .f32⟩
  | 67 => ⟨S_, .f32⟩
  | 68 => ⟨S4x4096, .f32⟩
  | 69 => ⟨S_, .f32⟩
  | 70 => ⟨S4x4096, .f32⟩
  | 71 => ⟨S4x4096, .f32⟩
  | 72 => ⟨S4x4096, .f32⟩
  | 73 => ⟨S_, .f32⟩
  | 74 => ⟨S4x4096, .f32⟩
  | 75 => ⟨S4x4096, .f32⟩
  | 76 => ⟨S4x4096x1x1, .f32⟩
  | 77 => ⟨S4x4096x3x3, .f32⟩
  | 78 => ⟨S4x4096x3x3, .f32⟩
  | 79 => ⟨S4x4096x1x1, .f32⟩
  | 80 => ⟨S4x4096, .f32⟩
  | 81 => ⟨S4x4096, .f32⟩
  | 82 => ⟨S4x4096x1x1, .f32⟩
  | 83 => ⟨S4x4096, .f32⟩
  | 84 => ⟨S4x4096, .f32⟩
  | 85 => ⟨S4x4096, .i1⟩
  | 86 => ⟨S4x4096x1, .i1⟩
  | 87 => ⟨S4x4096x1x3, .f32⟩
  | 88 => ⟨S4x4096x3, .f32⟩
  | 89 => ⟨S4x4096x1x3, .f32⟩
  | 90 => ⟨S4x4096x3, .f32⟩
  | 91 => ⟨S4x4096x3, .i1⟩
  | 92 => ⟨S4x4096x3, .f32⟩
  | 93 => ⟨S4x4096x1, .i1⟩
  | 94 => ⟨S4x4096x1x3, .f32⟩
  | 95 => ⟨S4x4096x3, .f32⟩
  | 96 => ⟨S4x4096x1x3, .f32⟩
  | 97 => ⟨S4x4096x3, .f32⟩
  | 98 => ⟨S4x4096x3, .i1⟩
  | 99 => ⟨S4x4096x3, .f32⟩
  | 100 => ⟨S4x4096x1x3, .f32⟩
  | 101 => ⟨S4x4096x3, .f32⟩
  | 102 => ⟨S_, .i32⟩
  | 103 => ⟨S_, .i32⟩
  | 104 => ⟨S4x4096, .i32⟩
  | 105 => ⟨S4x4096, .i32⟩
  | 106 => ⟨S4x4096, .i32⟩
  | 107 => ⟨S4x4096x1, .f32⟩
  | 108 => ⟨S4x4096, .f32⟩
  | 109 => ⟨S4x4096, .f32⟩
  | 110 => ⟨S4x4096x1, .f32⟩
  | 111 => ⟨S4x4096, .f32⟩
  | 112 => ⟨S4x4096, .f32⟩
  | 113 => ⟨S4x4096, .i1⟩
  | 114 => ⟨S4x4096x1, .i1⟩
  | 115 => ⟨S4x4096x3, .i1⟩
  | 116 => ⟨S4x4096x3, .f32⟩
  | 117 => ⟨S4x4096x1, .i1⟩
  | 118 => ⟨S4x4096x3, .i1⟩
  | 119 => ⟨S4x4096x3, .f32⟩
  | 120 => ⟨S4x4096, .i32⟩
  | 121 => ⟨S4x4096, .i32⟩
  | 122 => ⟨S4x4096x1, .f32⟩
  | 123 => ⟨S4x4096, .f32⟩
  | 124 => ⟨S_, .f32⟩
  | 125 => ⟨S4x4096, .f32⟩
  | 126 => ⟨S4x4096, .i1⟩
  | 127 => ⟨S4x4096x1, .f32⟩
  | _ => ⟨S4x4096x3, .f32⟩

abbrev hbmTy0_1 (i : Nat) : BufTy := match i % 128 with
  | 0 => ⟨S4x4096, .f32⟩
  | 1 => ⟨S_, .i32⟩
  | 2 => ⟨S_, .f32⟩
  | 3 => ⟨S4x4096, .f32⟩
  | 4 => ⟨S4x4096, .f32⟩
  | 5 => ⟨S4x4096x1, .f32⟩
  | 6 => ⟨S4x4096, .f32⟩
  | 7 => ⟨S_, .f32⟩
  | 8 => ⟨S4x4096, .f32⟩
  | 9 => ⟨S4x4096, .i1⟩
  | 10 => ⟨S4x4096x1, .f32⟩
  | 11 => ⟨S4x4096, .f32⟩
  | 12 => ⟨S4x4096, .f32⟩
  | 13 => ⟨S_, .i32⟩
  | 14 => ⟨S_, .f32⟩
  | 15 => ⟨S4x4096, .f32⟩
  | 16 => ⟨S4x4096, .f32⟩
  | 17 => ⟨S4x4096x1, .f32⟩
  | 18 => ⟨S4x4096, .f32⟩
  | 19 => ⟨S_, .f32⟩
  | 20 => ⟨S4x4096, .f32⟩
  | 21 => ⟨S4x4096, .i1⟩
  | 22 => ⟨S4x4096x1, .f32⟩
  | 23 => ⟨S4x4096, .f32⟩
  | 24 => ⟨S4x4096, .f32⟩
  | 25 => ⟨S_, .i32⟩
  | 26 => ⟨S_, .f32⟩
  | 27 => ⟨S4x4096, .f32⟩
  | 28 => ⟨S4x4096, .f32⟩
  | 29 => ⟨S4x4096x1, .f32⟩
  | 30 => ⟨S4x4096x3, .f32⟩
  | 31 => ⟨S4x4096x3, .f32⟩
  | 32 => ⟨S4x4096x3, .f32⟩
  | 33 => ⟨S4x4096x1, .f32⟩
  | 34 => ⟨S4x4096x3, .f32⟩
  | 35 => ⟨S4x4096x3, .f32⟩
  | 36 => ⟨S4x4096x3, .f32⟩
  | 37 => ⟨S4x4096x1, .f32⟩
  | 38 => ⟨S4x4096, .f32⟩
  | 39 => ⟨S4x4096, .f32⟩
  | 40 => ⟨S4x4096x1, .f32⟩
  | 41 => ⟨S4x4096, .f32⟩
  | 42 => ⟨S4x4096, .f32⟩
  | 43 => ⟨S4x4096, .i1⟩
  | 44 => ⟨S4x4096x1, .i1⟩
  | 45 => ⟨S4x4096x3, .i1⟩
  | 46 => ⟨S4x4096x3, .f32⟩
  | 47 => ⟨S4x4096x1, .i1⟩
  | 48 => ⟨S4x4096x3, .i1⟩
  | 49 => ⟨S4x4096x3, .f32⟩
  | 50 => ⟨S4x4096, .i32⟩
  | 51 => ⟨S4x4096, .i32⟩
  | 52 => ⟨S4x4096x1, .f32⟩
  | 53 => ⟨S4x4096, .f32⟩
  | 54 => ⟨S_, .f32⟩
  | 55 => ⟨S4x4096, .f32⟩
  | 56 => ⟨S4x4096, .i1⟩
  | 57 => ⟨S4x4096x1, .f32⟩
  | 58 => ⟨S4x4096, .f32⟩
  | 59 => ⟨S_, .i32⟩
  | 60 => ⟨S_, .f32⟩
  | 61 => ⟨S4x4096, .f32⟩
  | 62 => ⟨S4x4096, .f32⟩
  | 63 => ⟨S4x4096x1, .f32⟩
  | 64 => ⟨S4x4096, .f32⟩
  | 65 => ⟨S_, .f32⟩
  | 66 => ⟨S4x4096, .f32⟩
  | 67 => ⟨S4x4096, .i1⟩
  | 68 => ⟨S4x4096x1, .f32⟩
  | 69 => ⟨S4x4096, .f32⟩
  | 70 => ⟨S4x4096, .f32⟩
  | 71 => ⟨S_, .i32⟩
  | 72 => ⟨S_, .f32⟩
  | 73 => ⟨S4x4096, .f32⟩
  | 74 => ⟨S4x4096, .f32⟩
  | 75 => ⟨S4x4096x1, .f32⟩
  | 76 => ⟨S4x4096, .f32⟩
  | 77 => ⟨S4x4096x1, .f32⟩
  | 78 => ⟨S4x4096, .f32⟩
  | 79 => ⟨S4x4096, .f32⟩
  | 80 => ⟨S4x4096, .f32⟩
  | 81 => ⟨S4x4096x1, .f32⟩
  | 82 => ⟨S4x4096, .f32⟩
  | 83 => ⟨S4x4096, .f32⟩
  | 84 => ⟨S4x4096, .f32⟩
  | 85 => ⟨S4x4096x1, .f32⟩
  | 86 => ⟨S4x4096, .f32⟩
  | 87 => ⟨S4x4096, .f32⟩
  | 88 => ⟨S4x4096, .f32⟩
  | 89 => ⟨S_, .f32⟩
  | 90 => ⟨S4x4096, .f32⟩
  | 91 => ⟨S4x4096, .f32⟩
  | 92 => ⟨S_, .f32⟩
  | 93 => ⟨S4x4096, .f32⟩
  | 94 => ⟨S_, .f32⟩
  | 95 => ⟨S4x4096, .f32⟩
  | 96 => ⟨S4x4096, .f32⟩
  | 97 => ⟨S1x4x4096, .f32⟩
  | 98 => ⟨S1x4x4096, .f32⟩
  | 99 => ⟨S2x4x4096, .f32⟩
  | 100 => ⟨S_, .i32⟩
  | 101 => ⟨S_, .i32⟩
  | 102 => ⟨S4x4096, .f32⟩
  | 103 => ⟨S_, .i32⟩
  | 104 => ⟨S_, .i32⟩
  | 105 => ⟨S2x4x4096, .f32⟩
  | 106 => ⟨S_, .i32⟩
  | 107 => ⟨S_, .i1⟩
  | 108 => ⟨S_, .i32⟩
  | 109 => ⟨S_, .i32⟩
  | 110 => ⟨S_, .f32⟩
  | 111 => ⟨S2x4x4096, .f32⟩
  | 112 => ⟨S2x4x4096, .f32⟩
  | 113 => ⟨S2x4x4096, .f32⟩
  | 114 => ⟨S2x4x4096, .f32⟩
  | 115 => ⟨S_, .f32⟩
  | 116 => ⟨S2x4x4096, .f32⟩
  | 117 => ⟨S2x4x4096, .f32⟩
  | 118 => ⟨S2x4x4096, .f32⟩
  | 119 => ⟨S1x4x4096, .f32⟩
  | 120 => ⟨S2x4x4096, .f32⟩
  | 121 => ⟨S2x4x4096, .f32⟩
  | 122 => ⟨S_, .f32⟩
  | 123 => ⟨S2x4x4096, .f32⟩
  | 124 => ⟨S2x4x4096, .f32⟩
  | 125 => ⟨S2x4x4096, .f32⟩
  | 126 => ⟨S_, .f32⟩
  | 127 => ⟨S2x4x4096, .f32⟩
  | _ => ⟨S4x4096x3, .f32⟩

abbrev hbmTy0_2 (i : Nat) : BufTy := match i % 128 with
  | 0 => ⟨S2x4x4096, .f32⟩
  | 1 => ⟨S2x4x4096, .f32⟩
  | 2 => ⟨S2x4x4096, .f32⟩
  | 3 => ⟨S_, .i32⟩
  | 4 => ⟨S_, .i32⟩
  | 5 => ⟨S1x4x4096, .f32⟩
  | 6 => ⟨S4x4096, .f32⟩
  | 7 => ⟨S1x4x4096, .f32⟩
  | 8 => ⟨S4x4096, .f32⟩
  | 9 => ⟨S_, .f32⟩
  | 10 => ⟨S4x4096, .f32⟩
  | 11 => ⟨S4x4096, .f32⟩
  | 12 => ⟨S4x4096, .f32⟩
  | 13 => ⟨S4x4096, .f32⟩
  | 14 => ⟨S_, .f32⟩
  | 15 => ⟨S4x4096, .f32⟩
  | 16 => ⟨S4x4096, .f32⟩
  | 17 => ⟨S4x4096, .f32⟩
  | 18 => ⟨S4x4096, .f32⟩
  | 19 => ⟨S4x4096, .f32⟩
  | 20 => ⟨S4x4096, .f32⟩
  | 21 => ⟨S4x4096, .f32⟩
  | 22 => ⟨S4x8x1x512, .f32⟩
  | _ => ⟨S4x4096x3, .f32⟩

abbrev hbmTy (i : Nat) : BufTy := match i / 128 with
  | 0 => hbmTy0_0 i
  | 1 => hbmTy0_1 i
  | 2 => hbmTy0_2 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_values : Ref sig .tc := ⟨.hbm, 15, rfl⟩
abbrev main_indices : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_c : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_cst : Ref sig .tc := ⟨.hbm, 44, rfl⟩
abbrev main_call0_v5 : Ref sig .tc := ⟨.hbm, 45, rfl⟩
abbrev main_call0_call0_v0 : Ref sig .tc := ⟨.hbm, 46, rfl⟩
abbrev main_call0_v6 : Ref sig .tc := ⟨.hbm, 47, rfl⟩
abbrev main_call0_cst_0 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_call0_v0 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_v15 : Ref sig .tc := ⟨.hbm, 95, rfl⟩
abbrev main_call1_v16 : Ref sig .tc := ⟨.hbm, 96, rfl⟩
abbrev main_call1_v17 : Ref sig .tc := ⟨.hbm, 97, rfl⟩
abbrev main_call1_call1_v0 : Ref sig .tc := ⟨.hbm, 98, rfl⟩
abbrev main_call1_v18 : Ref sig .tc := ⟨.hbm, 99, rfl⟩
abbrev main_call1_v19 : Ref sig .tc := ⟨.hbm, 100, rfl⟩
abbrev main_call1_v20 : Ref sig .tc := ⟨.hbm, 101, rfl⟩
abbrev main_call1_c : Ref sig .tc := ⟨.hbm, 102, rfl⟩
abbrev main_call1_c_0 : Ref sig .tc := ⟨.hbm, 103, rfl⟩
abbrev main_call1_call2_v0 : Ref sig .tc := ⟨.hbm, 104, rfl⟩
abbrev main_call1_call2_v1 : Ref sig .tc := ⟨.hbm, 105, rfl⟩
abbrev main_call1_v21 : Ref sig .tc := ⟨.hbm, 106, rfl⟩
abbrev main_call1_v22 : Ref sig .tc := ⟨.hbm, 107, rfl⟩
abbrev main_call1_v23 : Ref sig .tc := ⟨.hbm, 108, rfl⟩
abbrev main_call1_v24 : Ref sig .tc := ⟨.hbm, 109, rfl⟩
abbrev main_call1_v25 : Ref sig .tc := ⟨.hbm, 110, rfl⟩
abbrev main_call1_v26 : Ref sig .tc := ⟨.hbm, 111, rfl⟩
abbrev main_call1_v27 : Ref sig .tc := ⟨.hbm, 112, rfl⟩
abbrev main_call1_v28 : Ref sig .tc := ⟨.hbm, 113, rfl⟩
abbrev main_call1_v29 : Ref sig .tc := ⟨.hbm, 114, rfl⟩
abbrev main_call1_call3_v0 : Ref sig .tc := ⟨.hbm, 115, rfl⟩
abbrev main_call1_v30 : Ref sig .tc := ⟨.hbm, 116, rfl⟩
abbrev main_call1_v31 : Ref sig .tc := ⟨.hbm, 117, rfl⟩
abbrev main_call1_call4_v0 : Ref sig .tc := ⟨.hbm, 118, rfl⟩
abbrev main_call1_v32 : Ref sig .tc := ⟨.hbm, 119, rfl⟩
abbrev main_call1_v33 : Ref sig .tc := ⟨.hbm, 120, rfl⟩
abbrev main_call1_v34 : Ref sig .tc := ⟨.hbm, 121, rfl⟩
abbrev main_call1_v35 : Ref sig .tc := ⟨.hbm, 122, rfl⟩
abbrev main_call1_v36 : Ref sig .tc := ⟨.hbm, 123, rfl⟩
abbrev main_call1_cst : Ref sig .tc := ⟨.hbm, 124, rfl⟩
abbrev main_call1_v37 : Ref sig .tc := ⟨.hbm, 125, rfl⟩
abbrev main_call1_v38 : Ref sig .tc := ⟨.hbm, 126, rfl⟩
abbrev main_call1_v39 : Ref sig .tc := ⟨.hbm, 127, rfl⟩
abbrev main_call1_v40 : Ref sig .tc := ⟨.hbm, 128, rfl⟩
abbrev main_call1_c_1 : Ref sig .tc := ⟨.hbm, 129, rfl⟩
abbrev main_call1_call6_v0 : Ref sig .tc := ⟨.hbm, 130, rfl⟩
abbrev main_call1_call6_v1 : Ref sig .tc := ⟨.hbm, 131, rfl⟩
abbrev main_call1_v41 : Ref sig .tc := ⟨.hbm, 132, rfl⟩
abbrev main_call1_v42 : Ref sig .tc := ⟨.hbm, 133, rfl⟩
abbrev main_call1_v43 : Ref sig .tc := ⟨.hbm, 134, rfl⟩
abbrev main_call1_cst_2 : Ref sig .tc := ⟨.hbm, 135, rfl⟩
abbrev main_call1_v44 : Ref sig .tc := ⟨.hbm, 136, rfl⟩
abbrev main_call1_v45 : Ref sig .tc := ⟨.hbm, 137, rfl⟩
abbrev main_call1_v46 : Ref sig .tc := ⟨.hbm, 138, rfl⟩
abbrev main_call1_v47 : Ref sig .tc := ⟨.hbm, 139, rfl⟩
abbrev main_call1_v48 : Ref sig .tc := ⟨.hbm, 140, rfl⟩
abbrev main_call1_c_3 : Ref sig .tc := ⟨.hbm, 141, rfl⟩
abbrev main_call1_call7_v0 : Ref sig .tc := ⟨.hbm, 142, rfl⟩
abbrev main_call1_call7_v1 : Ref sig .tc := ⟨.hbm, 143, rfl⟩
abbrev main_call1_v49 : Ref sig .tc := ⟨.hbm, 144, rfl⟩
abbrev main_call1_v50 : Ref sig .tc := ⟨.hbm, 145, rfl⟩
abbrev main_call1_v51 : Ref sig .tc := ⟨.hbm, 146, rfl⟩
abbrev main_call1_cst_4 : Ref sig .tc := ⟨.hbm, 147, rfl⟩
abbrev main_call1_v52 : Ref sig .tc := ⟨.hbm, 148, rfl⟩
abbrev main_call1_v53 : Ref sig .tc := ⟨.hbm, 149, rfl⟩
abbrev main_call1_v54 : Ref sig .tc := ⟨.hbm, 150, rfl⟩
abbrev main_call1_v55 : Ref sig .tc := ⟨.hbm, 151, rfl⟩
abbrev main_call1_v56 : Ref sig .tc := ⟨.hbm, 152, rfl⟩
abbrev main_call1_c_5 : Ref sig .tc := ⟨.hbm, 153, rfl⟩
abbrev main_call1_call8_v0 : Ref sig .tc := ⟨.hbm, 154, rfl⟩
abbrev main_call1_call8_v1 : Ref sig .tc := ⟨.hbm, 155, rfl⟩
abbrev main_call1_v57 : Ref sig .tc := ⟨.hbm, 156, rfl⟩
abbrev main_call1_v58 : Ref sig .tc := ⟨.hbm, 157, rfl⟩
abbrev main_call1_v59 : Ref sig .tc := ⟨.hbm, 158, rfl⟩
abbrev main_call1_v60 : Ref sig .tc := ⟨.hbm, 159, rfl⟩
abbrev main_call1_v61 : Ref sig .tc := ⟨.hbm, 160, rfl⟩
abbrev main_call1_v62 : Ref sig .tc := ⟨.hbm, 161, rfl⟩
abbrev main_call1_v63 : Ref sig .tc := ⟨.hbm, 162, rfl⟩
abbrev main_call1_v64 : Ref sig .tc := ⟨.hbm, 163, rfl⟩
abbrev main_call1_v65 : Ref sig .tc := ⟨.hbm, 164, rfl⟩
abbrev main_call1_v66 : Ref sig .tc := ⟨.hbm, 165, rfl⟩
abbrev main_call1_v67 : Ref sig .tc := ⟨.hbm, 166, rfl⟩
abbrev main_call1_v68 : Ref sig .tc := ⟨.hbm, 167, rfl⟩
abbrev main_call1_v69 : Ref sig .tc := ⟨.hbm, 168, rfl⟩
abbrev main_call1_v70 : Ref sig .tc := ⟨.hbm, 169, rfl⟩
abbrev main_call1_v71 : Ref sig .tc := ⟨.hbm, 170, rfl⟩
abbrev main_call1_v72 : Ref sig .tc := ⟨.hbm, 171, rfl⟩
abbrev main_call1_v73 : Ref sig .tc := ⟨.hbm, 172, rfl⟩
abbrev main_call1_call9_v0 : Ref sig .tc := ⟨.hbm, 173, rfl⟩
abbrev main_call1_v74 : Ref sig .tc := ⟨.hbm, 174, rfl⟩
abbrev main_call1_v75 : Ref sig .tc := ⟨.hbm, 175, rfl⟩
abbrev main_call1_call10_v0 : Ref sig .tc := ⟨.hbm, 176, rfl⟩
abbrev main_call1_v76 : Ref sig .tc := ⟨.hbm, 177, rfl⟩
abbrev main_call1_v77 : Ref sig .tc := ⟨.hbm, 178, rfl⟩
abbrev main_call1_v78 : Ref sig .tc := ⟨.hbm, 179, rfl⟩
abbrev main_call1_v79 : Ref sig .tc := ⟨.hbm, 180, rfl⟩
abbrev main_call1_v80 : Ref sig .tc := ⟨.hbm, 181, rfl⟩
abbrev main_call1_cst_6 : Ref sig .tc := ⟨.hbm, 182, rfl⟩
abbrev main_call1_v81 : Ref sig .tc := ⟨.hbm, 183, rfl⟩
abbrev main_call1_v82 : Ref sig .tc := ⟨.hbm, 184, rfl⟩
abbrev main_call1_v83 : Ref sig .tc := ⟨.hbm, 185, rfl⟩
abbrev main_call1_v84 : Ref sig .tc := ⟨.hbm, 186, rfl⟩
abbrev main_call1_c_7 : Ref sig .tc := ⟨.hbm, 187, rfl⟩
abbrev main_call1_call12_v0 : Ref sig .tc := ⟨.hbm, 188, rfl⟩
abbrev main_call1_call12_v1 : Ref sig .tc := ⟨.hbm, 189, rfl⟩
abbrev main_call1_v85 : Ref sig .tc := ⟨.hbm, 190, rfl⟩
abbrev main_call1_v86 : Ref sig .tc := ⟨.hbm, 191, rfl⟩
abbrev main_call1_v87 : Ref sig .tc := ⟨.hbm, 192, rfl⟩
abbrev main_call1_cst_8 : Ref sig .tc := ⟨.hbm, 193, rfl⟩
abbrev main_call1_v88 : Ref sig .tc := ⟨.hbm, 194, rfl⟩
abbrev main_call1_v89 : Ref sig .tc := ⟨.hbm, 195, rfl⟩
abbrev main_call1_v90 : Ref sig .tc := ⟨.hbm, 196, rfl⟩
abbrev main_call1_v91 : Ref sig .tc := ⟨.hbm, 197, rfl⟩
abbrev main_call1_v92 : Ref sig .tc := ⟨.hbm, 198, rfl⟩
abbrev main_call1_c_9 : Ref sig .tc := ⟨.hbm, 199, rfl⟩
abbrev main_call1_call13_v0 : Ref sig .tc := ⟨.hbm, 200, rfl⟩
abbrev main_call1_call13_v1 : Ref sig .tc := ⟨.hbm, 201, rfl⟩
abbrev main_call1_v93 : Ref sig .tc := ⟨.hbm, 202, rfl⟩
abbrev main_call1_v94 : Ref sig .tc := ⟨.hbm, 203, rfl⟩
abbrev main_call1_v95 : Ref sig .tc := ⟨.hbm, 204, rfl⟩
abbrev main_call1_v96 : Ref sig .tc := ⟨.hbm, 205, rfl⟩
abbrev main_call1_v97 : Ref sig .tc := ⟨.hbm, 206, rfl⟩
abbrev main_call1_v98 : Ref sig .tc := ⟨.hbm, 207, rfl⟩
abbrev main_call1_v99 : Ref sig .tc := ⟨.hbm, 208, rfl⟩
abbrev main_call1_v100 : Ref sig .tc := ⟨.hbm, 209, rfl⟩
abbrev main_call1_v101 : Ref sig .tc := ⟨.hbm, 210, rfl⟩
abbrev main_call1_v102 : Ref sig .tc := ⟨.hbm, 211, rfl⟩
abbrev main_call1_v103 : Ref sig .tc := ⟨.hbm, 212, rfl⟩
abbrev main_call1_v104 : Ref sig .tc := ⟨.hbm, 213, rfl⟩
abbrev main_call1_v105 : Ref sig .tc := ⟨.hbm, 214, rfl⟩
abbrev main_call1_v106 : Ref sig .tc := ⟨.hbm, 215, rfl⟩
abbrev main_v53 : Ref sig .tc := ⟨.hbm, 216, rfl⟩
abbrev main_cst_10 : Ref sig .tc := ⟨.hbm, 217, rfl⟩
abbrev main_v54 : Ref sig .tc := ⟨.hbm, 218, rfl⟩
abbrev main_v55 : Ref sig .tc := ⟨.hbm, 219, rfl⟩
abbrev main_cst_11 : Ref sig .tc := ⟨.hbm, 220, rfl⟩
abbrev main_v56 : Ref sig .tc := ⟨.hbm, 221, rfl⟩
abbrev main_cst_12 : Ref sig .tc := ⟨.hbm, 222, rfl⟩
abbrev main_v57 : Ref sig .tc := ⟨.hbm, 223, rfl⟩
abbrev main_v58 : Ref sig .tc := ⟨.hbm, 224, rfl⟩
abbrev main_v59 : Ref sig .tc := ⟨.hbm, 225, rfl⟩
abbrev main_v60 : Ref sig .tc := ⟨.hbm, 226, rfl⟩
abbrev main_v61 : Ref sig .tc := ⟨.hbm, 227, rfl⟩
abbrev main_c_13 : Ref sig .tc := ⟨.hbm, 228, rfl⟩
abbrev main_c_14 : Ref sig .tc := ⟨.hbm, 229, rfl⟩
abbrev main_v62_0 : Ref sig .tc := ⟨.hbm, 230, rfl⟩
abbrev main_v62_1 : Ref sig .tc := ⟨.hbm, 231, rfl⟩
abbrev main_v62_2 : Ref sig .tc := ⟨.hbm, 232, rfl⟩
abbrev main_v62_3 : Ref sig .tc := ⟨.hbm, 233, rfl⟩
abbrev main_while0c_c_20 : Ref sig .tc := ⟨.hbm, 234, rfl⟩
abbrev main_while0c_v79 : Ref sig .tc := ⟨.hbm, 235, rfl⟩
abbrev main_while0b_c_20 : Ref sig .tc := ⟨.hbm, 236, rfl⟩
abbrev main_while0b_v79 : Ref sig .tc := ⟨.hbm, 237, rfl⟩
abbrev main_while0b_cst_21 : Ref sig .tc := ⟨.hbm, 238, rfl⟩
abbrev main_while0b_v80 : Ref sig .tc := ⟨.hbm, 239, rfl⟩
abbrev main_while0b_v81 : Ref sig .tc := ⟨.hbm, 240, rfl⟩
abbrev main_while0b_v82 : Ref sig .tc := ⟨.hbm, 241, rfl⟩
abbrev main_while0b_v83 : Ref sig .tc := ⟨.hbm, 242, rfl⟩
abbrev main_while0b_cst_22 : Ref sig .tc := ⟨.hbm, 243, rfl⟩
abbrev main_while0b_v84 : Ref sig .tc := ⟨.hbm, 244, rfl⟩
abbrev main_while0b_v85 : Ref sig .tc := ⟨.hbm, 245, rfl⟩
abbrev main_while0b_v86 : Ref sig .tc := ⟨.hbm, 246, rfl⟩
abbrev main_while0b_v87 : Ref sig .tc := ⟨.hbm, 247, rfl⟩
abbrev main_while0b_v88 : Ref sig .tc := ⟨.hbm, 248, rfl⟩
abbrev main_while0b_v89 : Ref sig .tc := ⟨.hbm, 249, rfl⟩
abbrev main_while0b_cst_23 : Ref sig .tc := ⟨.hbm, 250, rfl⟩
abbrev main_while0b_v90 : Ref sig .tc := ⟨.hbm, 251, rfl⟩
abbrev main_while0b_v91 : Ref sig .tc := ⟨.hbm, 252, rfl⟩
abbrev main_while0b_v92 : Ref sig .tc := ⟨.hbm, 253, rfl⟩
abbrev main_while0b_cst_24 : Ref sig .tc := ⟨.hbm, 254, rfl⟩
abbrev main_while0b_v93 : Ref sig .tc := ⟨.hbm, 255, rfl⟩
abbrev main_while0b_v94 : Ref sig .tc := ⟨.hbm, 256, rfl⟩
abbrev main_while0b_v95 : Ref sig .tc := ⟨.hbm, 257, rfl⟩
abbrev main_while0b_v96 : Ref sig .tc := ⟨.hbm, 258, rfl⟩
abbrev main_while0b_c_25 : Ref sig .tc := ⟨.hbm, 259, rfl⟩
abbrev main_while0b_v97 : Ref sig .tc := ⟨.hbm, 260, rfl⟩
abbrev main_v63 : Ref sig .tc := ⟨.hbm, 261, rfl⟩
abbrev main_v64 : Ref sig .tc := ⟨.hbm, 262, rfl⟩
abbrev main_v65 : Ref sig .tc := ⟨.hbm, 263, rfl⟩
abbrev main_v66 : Ref sig .tc := ⟨.hbm, 264, rfl⟩
abbrev main_cst_15 : Ref sig .tc := ⟨.hbm, 265, rfl⟩
abbrev main_v67 : Ref sig .tc := ⟨.hbm, 266, rfl⟩
abbrev main_v68 : Ref sig .tc := ⟨.hbm, 267, rfl⟩
abbrev main_v69 : Ref sig .tc := ⟨.hbm, 268, rfl⟩
abbrev main_v70 : Ref sig .tc := ⟨.hbm, 269, rfl⟩
abbrev main_cst_16 : Ref sig .tc := ⟨.hbm, 270, rfl⟩
abbrev main_v71 : Ref sig .tc := ⟨.hbm, 271, rfl⟩
abbrev main_v72 : Ref sig .tc := ⟨.hbm, 272, rfl⟩
abbrev main_v73 : Ref sig .tc := ⟨.hbm, 273, rfl⟩
abbrev main_v74 : Ref sig .tc := ⟨.hbm, 274, rfl⟩
abbrev main_v75 : Ref sig .tc := ⟨.hbm, 275, rfl⟩
abbrev main_v76 : Ref sig .tc := ⟨.hbm, 276, rfl⟩
abbrev main_v77 : Ref sig .tc := ⟨.hbm, 277, rfl⟩
abbrev main_v78 : Ref sig .tc := ⟨.hbm, 278, rfl⟩

abbrev nD : Nat := 1
abbrev τ : Topo := Topo.v7x

variable {F : FTy → Type} [FloatOps F]

abbrev main_while0_count : Scf.Loop 32 := ⟨0#32, 28#32, 1#32⟩
-- ==== Proof.KBlock.lean ====
/-
  The kernel's block as a composition of a few vector functions, for any carrier of numbers: the sixteen rounds that mark
  the neighbours, the selection of exactly sixteen, the sums over the selected points, and the two times 28 guarded
  Newton steps. The printed body cuts its operations into pieces at arbitrary places; each lemma here puts the pieces
  that fall inside the Newton iterations back together.
-/
module

public import proofs.«01_k».proof.Proof.Gen.KernelIdeal.Value
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F] [Named F]

/-! ## The Newton steps -/

/-- `4c²` on vectors. -/
def quad (c : FVec F S1x512 .f32) : FVec F S1x512 .f32 :=
  mulf (mulf (broadcast S1x512 (Scalar.ofBits (F := F) .f32 0x40800000#32)) c) c

/-- `(4c² − 3)c − r` on vectors. -/
def numer (r c : FVec F S1x512 .f32) : FVec F S1x512 .f32 :=
  subf (mulf (subf (quad c) (broadcast S1x512 (Scalar.ofBits (F := F) .f32 0x40400000#32))) c) r

/-- `12c² − 3` on vectors. -/
def denom (c : FVec F S1x512 .f32) : FVec F S1x512 .f32 :=
  subf (mulf (mulf (broadcast S1x512 (Scalar.ofBits (F := F) .f32 0x41400000#32)) c) c)
    (broadcast S1x512 (Scalar.ofBits (F := F) .f32 0x40400000#32))

/-- The step with the floor under the derivative, before its bounds. -/
def raw (r c : FVec F S1x512 .f32) : FVec F S1x512 .f32 :=
  subf c (divf (numer r c) (maximumf (denom c) (broadcast S1x512 (Scalar.ofBits (F := F) .f32 0x2B8CBCCC#32))))

/-- The step of the iteration for the largest root, kept in `[1/2, 1]`. -/
def hiStep (r c : FVec F S1x512 .f32) : FVec F S1x512 .f32 :=
  minimumf (broadcast S1x512 (Scalar.ofBits (F := F) .f32 0x3F800000#32))
    (maximumf (broadcast S1x512 (Scalar.ofBits (F := F) .f32 0x3F000000#32)) (raw r c))

/-- The step of the iteration for the smallest root, kept in `[−1, −1/2]`. -/
def loStep (r c : FVec F S1x512 .f32) : FVec F S1x512 .f32 :=
  minimumf (broadcast S1x512 (Scalar.ofBits (F := F) .f32 0xBF000000#32))
    (maximumf (broadcast S1x512 (Scalar.ofBits (F := F) .f32 0xBF800000#32)) (raw r c))

/-- The start of the first iteration, `1`. -/
def hiStart : FVec F S1x512 .f32 := broadcast S1x512 (Scalar.ofBits (F := F) .f32 0x3F800000#32)

/-- The start of the second iteration, `0 − 1`. -/
def loStart : FVec F S1x512 .f32 :=
  subf (broadcast S1x512 (Scalar.ofBits (F := F) .f32 0x00000000#32)) (broadcast S1x512 (Scalar.ofBits (F := F) .f32 0x3F800000#32))

/-- All 28 steps for the largest root. -/
def hiEnd (r : FVec F S1x512 .f32) : FVec F S1x512 .f32 := (hiStep r)^[28] hiStart

/-- All 28 steps for the smallest root. -/
def loEnd (r : FVec F S1x512 .f32) : FVec F S1x512 .f32 := (loStep r)^[28] loStart

/-! ### The printed pieces of the iterations: each piece applied to what the pieces before it computed is so many steps -/

theorem pay30_eq (a1 a2 a3 a4 a5 a6 a7 : FVec F S1x512 .f32) :
    k0_pay30 a1 a2 a3 a4 a5 a6 a7
      = (hiStep (k0_pay29 a1 a2 a3 a4 a5 a6 a7) hiStart) := rfl
theorem pay31_eq (a1 a2 a3 a4 a5 a6 a7 : FVec F S1x512 .f32) :
    k0_pay31 a1 a2 a3 a4 a5 a6 a7
      = (quad (hiStep (k0_pay29 a1 a2 a3 a4 a5 a6 a7) hiStart)) := rfl
theorem pay32_eq (r c : FVec F S1x512 .f32) :
    k0_pay32 r c (quad c)
      = (hiStep r (hiStep r c)) := rfl
theorem pay33_eq (r c : FVec F S1x512 .f32) :
    k0_pay33 r c (quad c)
      = (numer r (hiStep r (hiStep r c))) := rfl
theorem pay34_eq (r c : FVec F S1x512 .f32) :
    k0_pay34 r c (numer r c) (Scalar.ofBits (F := F) .f32 0x41400000#32)
      = (hiStep r (hiStep r c)) := rfl
theorem pay35_eq (r c : FVec F S1x512 .f32) :
    k0_pay35 r c (numer r c) (Scalar.ofBits (F := F) .f32 0x41400000#32)
      = (numer r (hiStep r (hiStep r c))) := rfl
theorem pay36_eq (r c : FVec F S1x512 .f32) :
    k0_pay36 r c (numer r c) (Scalar.ofBits (F := F) .f32 0x41400000#32)
      = (denom (hiStep r (hiStep r c))) := rfl
theorem pay37_eq (r c : FVec F S1x512 .f32) :
    k0_pay37 r c (numer r c) (denom c)
      = (raw r (hiStep r (hiStep r c))) := rfl
theorem pay38_eq (r c : FVec F S1x512 .f32) :
    k0_pay38 r (raw r c) (Scalar.ofBits (F := F) .f32 0x3F000000#32)
      = (hiStep r (hiStep r (hiStep r c))) := rfl
theorem pay39_eq (r c : FVec F S1x512 .f32) :
    k0_pay39 r c (Scalar.ofBits (F := F) .f32 0x40800000#32)
      = (hiStep r (hiStep r c)) := rfl
theorem pay40_eq (r c : FVec F S1x512 .f32) :
    k0_pay40 r c (Scalar.ofBits (F := F) .f32 0x40800000#32)
      = (subf (quad (hiStep r (hiStep r c))) (broadcast S1x512 (Scalar.ofBits (F := F) .f32 0x40400000#32))) := rfl
theorem pay41_eq (r c : FVec F S1x512 .f32) :
    k0_pay41 r c (subf (quad c) (broadcast S1x512 (Scalar.ofBits (F := F) .f32 0x40400000#32)))
      = (hiStep r (hiStep r c)) := rfl
theorem pay42_eq (r c : FVec F S1x512 .f32) :
    k0_pay42 r c (subf (quad c) (broadcast S1x512 (Scalar.ofBits (F := F) .f32 0x40400000#32)))
      = (numer r (hiStep r (hiStep r c))) := rfl
theorem pay43_eq (r c : FVec F S1x512 .f32) :
    k0_pay43 r c (subf (quad c) (broadcast S1x512 (Scalar.ofBits (F := F) .f32 0x40400000#32)))
      = (mulf (mulf (broadcast S1x512 (Scalar.ofBits (F := F) .f32 0x41400000#32)) (hiStep r (hiStep r c))) (hiStep r (hiStep r c))) := rfl
theorem pay44_eq (r c : FVec F S1x512 .f32) :
    k0_pay44 r c (numer r c) (mulf (mulf (broadcast S1x512 (Scalar.ofBits (F := F) .f32 0x41400000#32)) c) c)
      = (hiStep r (hiStep r c)) := rfl
theorem pay45_eq (r c : FVec F S1x512 .f32) :
    k0_pay45 r c (numer r c) (mulf (mulf (broadcast S1x512 (Scalar.ofBits (F := F) .f32 0x41400000#32)) c) c)
      = (numer r (hiStep r (hiStep r c))) := rfl
theorem pay46_eq (r c : FVec F S1x512 .f32) :
    k0_pay46 r c (numer r c) (mulf (mulf (broadcast S1x512 (Scalar.ofBits (F := F) .f32 0x41400000#32)) c) c)
      = (maximumf (denom (hiStep r (hiStep r c))) (broadcast S1x512 (Scalar.ofBits (F := F) .f32 0x2B8CBCCC#32))) := rfl
theorem pay47_eq (r c : FVec F S1x512 .f32) :
    k0_pay47 r c (numer r c) (maximumf (denom c) (broadcast S1x512 (Scalar.ofBits (F := F) .f32 0x2B8CBCCC#32)))
      = (maximumf (broadcast S1x512 (Scalar.ofBits (F := F) .f32 0x3F000000#32)) (raw r (hiStep r (hiStep r c)))) := rfl
theorem pay48_eq (r c : FVec F S1x512 .f32) :
    k0_pay48 r (Scalar.ofBits (F := F) .f32 0x3F800000#32) (maximumf (broadcast S1x512 (Scalar.ofBits (F := F) .f32 0x3F000000#32)) (raw r c))
      = (hiStep r (hiStep r (hiStep r c))) := rfl
theorem pay49_eq (r c : FVec F S1x512 .f32) :
    k0_pay49 r (Scalar.ofBits (F := F) .f32 0x3F800000#32) (maximumf (broadcast S1x512 (Scalar.ofBits (F := F) .f32 0x3F000000#32)) (raw r c))
      = (quad (hiStep r (hiStep r (hiStep r c)))) := rfl
theorem pay50_eq (r c : FVec F S1x512 .f32) :
    k0_pay50 r c (quad c)
      = (hiStep r (hiStep r c)) := rfl
theorem pay51_eq (r c : FVec F S1x512 .f32) :
    k0_pay51 r c (quad c)
      = (numer r (hiStep r (hiStep r c))) := rfl
theorem pay52_eq (r c : FVec F S1x512 .f32) :
    k0_pay52 r c (numer r c) (Scalar.ofBits (F := F) .f32 0x41400000#32)
      = (hiStep r (hiStep r c)) := rfl
theorem pay53_eq (r c : FVec F S1x512 .f32) :
    k0_pay53 r c (numer r c) (Scalar.ofBits (F := F) .f32 0x41400000#32)
      = (numer r (hiStep r (hiStep r c))) := rfl
theorem pay54_eq (r c : FVec F S1x512 .f32) :
    k0_pay54 r c (numer r c) (Scalar.ofBits (F := F) .f32 0x41400000#32)
      = (denom (hiStep r (hiStep r c))) := rfl
theorem pay55_eq (r c : FVec F S1x512 .f32) :
    k0_pay55 r c (numer r c) (denom c)
      = (raw r (hiStep r (hiStep r c))) := rfl
theorem pay56_eq (r c : FVec F S1x512 .f32) :
    k0_pay56 (raw r c) (Scalar.ofBits (F := F) .f32 0x3F000000#32)
      = (hiStep r c) := rfl
theorem pay57_eq (r : FVec F S1x512 .f32) :
    k0_pay57 r
      = (raw r (loStep r loStart)) := rfl
theorem pay58_eq (r c : FVec F S1x512 .f32) :
    k0_pay58 r (raw r c) (Scalar.ofBits (F := F) .f32 0xBF800000#32) (Scalar.ofBits (F := F) .f32 0xBF000000#32)
      = (loStep r (loStep r (loStep r c))) := rfl
theorem pay59_eq  :
    k0_pay59 (F := F)
      = (broadcast S1x512 (Scalar.ofBits (F := F) .f32 0x40800000#32)) := rfl
theorem pay60_eq (r c : FVec F S1x512 .f32) :
    k0_pay60 r c (broadcast S1x512 (Scalar.ofBits (F := F) .f32 0x40800000#32))
      = (loStep r (loStep r c)) := rfl
theorem pay61_eq (r c : FVec F S1x512 .f32) :
    k0_pay61 r c (broadcast S1x512 (Scalar.ofBits (F := F) .f32 0x40800000#32))
      = (mulf (subf (quad (loStep r (loStep r c))) (broadcast S1x512 (Scalar.ofBits (F := F) .f32 0x40400000#32))) (loStep r (loStep r c))) := rfl
theorem pay62_eq (r c : FVec F S1x512 .f32) :
    k0_pay62 r c (mulf (subf (quad c) (broadcast S1x512 (Scalar.ofBits (F := F) .f32 0x40400000#32))) c)
      = (loStep r (loStep r c)) := rfl
theorem pay63_eq (r c : FVec F S1x512 .f32) :
    k0_pay63 r c (mulf (subf (quad c) (broadcast S1x512 (Scalar.ofBits (F := F) .f32 0x40400000#32))) c)
      = (numer r (loStep r (loStep r c))) := rfl
theorem pay64_eq (r c : FVec F S1x512 .f32) :
    k0_pay64 r c (mulf (subf (quad c) (broadcast S1x512 (Scalar.ofBits (F := F) .f32 0x40400000#32))) c)
      = (mulf (mulf (broadcast S1x512 (Scalar.ofBits (F := F) .f32 0x41400000#32)) (loStep r (loStep r c))) (loStep r (loStep r c))) := rfl
theorem pay65_eq (r c : FVec F S1x512 .f32) :
    k0_pay65 r c (numer r c) (mulf (mulf (broadcast S1x512 (Scalar.ofBits (F := F) .f32 0x41400000#32)) c) c) (Scalar.ofBits (F := F) .f32 0x40400000#32)
      = (loStep r (loStep r c)) := rfl
theorem pay66_eq (r c : FVec F S1x512 .f32) :
    k0_pay66 r c (numer r c) (mulf (mulf (broadcast S1x512 (Scalar.ofBits (F := F) .f32 0x41400000#32)) c) c) (Scalar.ofBits (F := F) .f32 0x40400000#32)
      = (divf (numer r (loStep r (loStep r c))) (maximumf (denom (loStep r (loStep r c))) (broadcast S1x512 (Scalar.ofBits (F := F) .f32 0x2B8CBCCC#32)))) := rfl
theorem pay67_eq (r c : FVec F S1x512 .f32) :
    k0_pay67 r c (divf (numer r c) (maximumf (denom c) (broadcast S1x512 (Scalar.ofBits (F := F) .f32 0x2B8CBCCC#32))))
      = (maximumf (broadcast S1x512 (Scalar.ofBits (F := F) .f32 0xBF800000#32)) (raw r (loStep r (loStep r c)))) := rfl
theorem pay68_eq  :
    k0_pay68 (F := F)
      = (broadcast S1x512 (Scalar.ofBits (F := F) .f32 0xBF000000#32)) := rfl
theorem pay69_eq (r c : FVec F S1x512 .f32) :
    k0_pay69 r (maximumf (broadcast S1x512 (Scalar.ofBits (F := F) .f32 0xBF800000#32)) (raw r c)) (broadcast S1x512 (Scalar.ofBits (F := F) .f32 0xBF000000#32))
      = (loStep r (loStep r (loStep r c))) := rfl
theorem pay70_eq (r c : FVec F S1x512 .f32) :
    k0_pay70 r (maximumf (broadcast S1x512 (Scalar.ofBits (F := F) .f32 0xBF800000#32)) (raw r c)) (broadcast S1x512 (Scalar.ofBits (F := F) .f32 0xBF000000#32))
      = (quad (loStep r (loStep r (loStep r c)))) := rfl
theorem pay71_eq (r c : FVec F S1x512 .f32) :
    k0_pay71 r c (quad c) (Scalar.ofBits (F := F) .f32 0x40400000#32)
      = (loStep r (loStep r c)) := rfl
theorem pay72_eq (r c : FVec F S1x512 .f32) :
    k0_pay72 r c (quad c) (Scalar.ofBits (F := F) .f32 0x40400000#32)
      = (numer r (loStep r (loStep r c))) := rfl
theorem pay73_eq  :
    k0_pay73 (F := F)
      = (broadcast S1x512 (Scalar.ofBits (F := F) .f32 0x41400000#32)) := rfl
theorem pay74_eq (r c : FVec F S1x512 .f32) :
    k0_pay74 r c (numer r c) (broadcast S1x512 (Scalar.ofBits (F := F) .f32 0x41400000#32))
      = (loStep r (loStep r c)) := rfl
theorem pay75_eq (r c : FVec F S1x512 .f32) :
    k0_pay75 r c (numer r c) (broadcast S1x512 (Scalar.ofBits (F := F) .f32 0x41400000#32))
      = (numer r (loStep r (loStep r c))) := rfl
theorem pay76_eq (r c : FVec F S1x512 .f32) :
    k0_pay76 r c (numer r c) (broadcast S1x512 (Scalar.ofBits (F := F) .f32 0x41400000#32))
      = (denom (loStep r (loStep r c))) := rfl
theorem pay77_eq (r c : FVec F S1x512 .f32) :
    k0_pay77 r c (numer r c) (denom c) (Scalar.ofBits (F := F) .f32 0x2B8CBCCC#32)
      = (raw r (loStep r (loStep r c))) := rfl
theorem pay78_eq (r c : FVec F S1x512 .f32) :
    k0_pay78 r (raw r c) (Scalar.ofBits (F := F) .f32 0xBF800000#32) (Scalar.ofBits (F := F) .f32 0xBF000000#32)
      = (loStep r (loStep r (loStep r c))) := rfl
theorem pay79_eq  :
    k0_pay79 (F := F)
      = (broadcast S1x512 (Scalar.ofBits (F := F) .f32 0x40800000#32)) := rfl
theorem pay80_eq (r c : FVec F S1x512 .f32) :
    k0_pay80 r c (broadcast S1x512 (Scalar.ofBits (F := F) .f32 0x40800000#32))
      = (loStep r (loStep r c)) := rfl
theorem pay81_eq (r c : FVec F S1x512 .f32) :
    k0_pay81 r c (broadcast S1x512 (Scalar.ofBits (F := F) .f32 0x40800000#32))
      = (mulf (subf (quad (loStep r (loStep r c))) (broadcast S1x512 (Scalar.ofBits (F := F) .f32 0x40400000#32))) (loStep r (loStep r c))) := rfl
/-- The last piece: the remaining steps for the smallest root, then the smallest eigenvalue `q + 2p·(−(hi + lo))`. -/
theorem pay83_eq (q p r h c : FVec F S1x512 .f32) :
    k0_pay83 q p r h c (mulf (subf (quad c) (broadcast S1x512 (Scalar.ofBits (F := F) .f32 0x40400000#32))) c)
      = addf q (mulf (mulf (broadcast S1x512 (Scalar.ofBits (F := F) .f32 0x40000000#32)) p)
          (subf (broadcast S1x512 (Scalar.ofBits (F := F) .f32 0x00000000#32)) (addf h (loStep r (loStep r c))))) := rfl

/-! ## The rounds of the selection -/

/-- One round: the row's least value is found and every entry equal to it becomes `+∞`. -/
def round (v : FVec F S512x4096 .f32) : FVec F S512x4096 .f32 :=
  select (cmpf .oeq v (broadcastTo S512x4096
      (shapeCast S512x1 (multiReduction .minimumf [1] S512 v 0x7F800000#32 reduces_S512x4096_S512 (.inl rfl) rfl) shapeCasts_S512_S512x1)
      broadcasts_S512x1_S512x4096))
    (broadcast S512x4096 (Scalar.ofBits (F := F) .f32 0x7F800000#32)) v

/-- The mask of the entries that are infinite. -/
def marked (v : FVec F S512x4096 .f32) : IVec S512x4096 1 :=
  cmpf .oeq (absf v) (broadcast S512x4096 (Scalar.ofBits (F := F) .f32 0x7F800000#32))

/-- How many entries of each row a mask has, less sixteen. -/
def excess (s : IVec S512x4096 1) : FVec F S512x1 .f32 :=
  subf (shapeCast S512x1 (multiReduction .add [1] S512 (select s (broadcast S512x4096 (Scalar.ofBits (F := F) .f32 0x3F800000#32))
      (broadcast S512x4096 (Scalar.ofBits (F := F) .f32 0x00000000#32))) 0x00000000#32 reduces_S512x4096_S512 (.inl rfl) rfl) shapeCasts_S512_S512x1)
    (broadcast S512x1 (Scalar.ofBits (F := F) .f32 0x41800000#32))

/-- The first two rounds. -/
theorem pay3_eq (a : Vec F S1x3x4096 .f32) (b : Vec F S1x512x3 .f32) (c : Vec F S1x1x4096 .f32) (d : Vec F S1x512x1 .f32) :
    k0_pay3 a b c d = round (round (k0_pay2 a b c d)) := rfl

/-- The third to the tenth round. -/
theorem pay6_eq (a : Vec F S1x3x4096 .f32) (b : Vec F S1x512x3 .f32) (c : Vec F S1x1x4096 .f32) (d : Vec F S1x512x1 .f32) :
    k0_pay6 (k0_pay3 a b c d) (k0_pay4 a b c d) k0_pay5 = round^[8] (k0_pay3 a b c d) := rfl

/-- The eleventh to the sixteenth round and the mask. -/
theorem pay8_eq (v : FVec F S512x4096 .f32) (w : IVec S512x4096 1) (z : FVec F S512x4096 .f32) :
    k0_pay8 (k0_pay6 v w z) (k0_pay7 v w z) = marked (round^[6] (k0_pay6 v w z)) := rfl

/-- The count of the mask less sixteen. -/
theorem pay9_eq (v : FVec F S512x4096 .f32) (w : FVec F S512x1 .f32) : k0_pay9 v w = excess (k0_pay8 v w) := rfl

/-- The mask of the sixteen rounds over distances `d`. -/
def maskOf (d : FVec F S512x4096 .f32) : IVec S512x4096 1 := marked (round^[16] d)

/-- The sums of the twelve features over the sixteen points selected by distances `d`. -/
def momOf (d : FVec F S512x4096 .f32) (f : Vec F S1x4096x12 .f32) : FVec F S12x512 .f32 :=
  k0_pay10 d (maskOf d) (excess (maskOf d)) f

/-! ## From the sums to the ratio -/

/-- Row `i` of the sums over sixteen. -/
def mean (o : Fin 2 → Nat) (h : S12x512.Slices o S1x512) (M : FVec F S12x512 .f32) : FVec F S1x512 .f32 :=
  mulf (extractStridedSlice S1x512 o M h) (broadcast S1x512 (Scalar.ofBits (F := F) .f32 0x3D800000#32))

/-- The mean of the first coordinate. -/
def mu0 (M : FVec F S12x512 .f32) : FVec F S1x512 .f32 := mean ![0, 0] slices_S12x512_o0_0_S1x512 M
/-- The mean of the second coordinate. -/
def mu1 (M : FVec F S12x512 .f32) : FVec F S1x512 .f32 := mean ![1, 0] slices_S12x512_o1_0_S1x512 M
/-- The mean of the third coordinate. -/
def mu2 (M : FVec F S12x512 .f32) : FVec F S1x512 .f32 := mean ![2, 0] slices_S12x512_o2_0_S1x512 M
/-- The mean of the product of the first coordinate with the second. -/
def e01 (M : FVec F S12x512 .f32) : FVec F S1x512 .f32 := mean ![4, 0] slices_S12x512_o4_0_S1x512 M
/-- The variance of the first coordinate. -/
def c00 (M : FVec F S12x512 .f32) : FVec F S1x512 .f32 :=
  subf (mean ![3, 0] slices_S12x512_o3_0_S1x512 M) (mulf (mu0 M) (mu0 M))

/-- A third of the trace of the covariance. -/
def qOf (M : FVec F S12x512 .f32) : FVec F S1x512 .f32 := k0_pay21 M (mu1 M) (mu2 M) (c00 M)

/-- The scale of the deviator: the square root of a sixth of its squared norm. -/
def pOf (M : FVec F S12x512 .f32) : FVec F S1x512 .f32 := k0_pay25 M (mu0 M) (mu1 M) (mu2 M) (c00 M) (e01 M)

/-- Half the determinant of the scaled deviator, kept in `[−1, 1]`. -/
def rOf (M : FVec F S12x512 .f32) : FVec F S1x512 .f32 :=
  k0_pay29 (k0_pay16 (mu0 M) (mu1 M) (e01 M)) (k0_pay17 M (mu0 M) (mu2 M)) (k0_pay19 M (mu1 M) (mu2 M))
    (k0_pay24 M (mu1 M) (mu2 M) (c00 M)) (k0_pay26 M (mu0 M) (mu1 M) (mu2 M) (c00 M) (e01 M))
    (k0_pay27 M (mu0 M) (mu1 M) (mu2 M) (c00 M) (e01 M)) (k0_pay28 M (mu0 M) (mu1 M) (mu2 M) (c00 M) (e01 M))

/-- The ratio of the two outer eigenvalues `q + 2p·hi` and `q + 2p·(−(hi + lo))`, before the last reshape. -/
def ratioOf (q p r : FVec F S1x512 .f32) : FVec F S1x512 .f32 :=
  divf (addf q (mulf (mulf (broadcast S1x512 (Scalar.ofBits (F := F) .f32 0x40000000#32)) p) (hiEnd r)))
    (addf q (mulf (mulf (broadcast S1x512 (Scalar.ofBits (F := F) .f32 0x40000000#32)) p)
          (subf (broadcast S1x512 (Scalar.ofBits (F := F) .f32 0x00000000#32)) (addf (hiEnd r) (loEnd r)))))

/-- The distances of the block's 512 query points from all points of the cloud, at a grid point. -/
def distAt (m : (ℓ : Loc nD τ sig) → Buf (Elt F) ℓ) (c : Dev nD) (t : Fin cfg0.N) : FVec F S512x4096 .f32 :=
  k0_pay2 (iblk m c 0 t)
    (View.ld (iblk m c 1 t) (Rect.unit (s := S1x4096x12) (k0_off1 (grid0.coords t)) S1x512x3.size (k0_off1_inb (grid0.coords t))))
    (iblk m c 2 t)
    (View.ld (iblk m c 3 t) (Rect.unit (s := S1x4096x1) (k0_off2 (grid0.coords t)) S1x512x1.size (k0_off2_inb (grid0.coords t))))

/-- What the body leaves in the result's block at grid point `t`: the ratio of the sums over the selected neighbours. -/
theorem block (m : (ℓ : Loc nD τ sig) → Buf (Elt F) ℓ) (c : Dev nD) (t : Fin cfg0.N) (y : S1x1x1x512.Idx) :
    outsAt0 m c t y = shapeCast S1x1x1x512 (ratioOf (qOf (momOf (distAt m c t) (iblk m c 1 t)))
      (pOf (momOf (distAt m c t) (iblk m c 1 t))) (rOf (momOf (distAt m c t) (iblk m c 1 t)))) shapeCasts_S1x512_S1x1x1x512 y := by
  unfold outsAt0
  frame_out
  simp only [pay9_eq, pay8_eq, pay6_eq, pay3_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, pay83_eq]
  rfl

end Cert.KernelIdeal.Hand

end
-- ==== Proof.KInput.lean ====
/-
  The operands of the kernel at coordinates: what the host code prepares from the points (transposed points, the twelve
  features, the squared lengths) and what each grid point loads of it. With it the distances and the sums of the block.
-/
module

public import proofs.«01_k».proof.Proof.KBlock
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Coordinate `a` of point `p` of cloud `b` of the argument. -/
def pt (c : Dev nD) (b : Fin 4) (p : Fin 4096) (a : Fin 3) : EReal := m ((c : Thread nD τ).loc main_arg0) (ix3 b p a)

/-- The twelve features of a point: its coordinates, then the three coordinates times each coordinate. -/
def feat (x : Fin 3 → EReal) (k : Fin 12) : EReal :=
  if h : k.val < 3 then x ⟨k.val, h⟩
  else if h : k.val - 3 < 3 then x 0 * x ⟨k.val - 3, h⟩
  else if h : k.val - 3 - 3 < 3 then x 1 * x ⟨k.val - 3 - 3, h⟩
  else x 2 * x ⟨k.val - 3 - 3 - 3, by omega⟩

/-- Equal parts concatenate to equal wholes. -/
theorem concat_congr {a a' b b' d d' e e' : Vec Ideal S4x4096x3 .f32} (ha : a = a') (hb : b = b') (hd : d = d') (he : e = e') :
    concatenate (α := Elt Ideal .f32) S4x4096x12 2 [⟨S4x4096x3, a⟩, ⟨S4x4096x3, b⟩, ⟨S4x4096x3, d⟩, ⟨S4x4096x3, e⟩]
        concatenates_S4x4096x3_S4x4096x3_S4x4096x3_S4x4096x3_S4x4096x12_d2
      = concatenate S4x4096x12 2 [⟨S4x4096x3, a'⟩, ⟨S4x4096x3, b'⟩, ⟨S4x4096x3, d'⟩, ⟨S4x4096x3, e'⟩]
        concatenates_S4x4096x3_S4x4096x3_S4x4096x3_S4x4096x3_S4x4096x12_d2 := by
  subst ha; subst hb; subst hd; subst he; rfl

/-- One coordinate of every point, repeated, times the points. -/
def prodBy (o : Fin 3 → Nat) (h : S4x4096x3.Slices o S4x4096x1) (x : FVec Ideal S4x4096x3 .f32) : FVec Ideal S4x4096x3 .f32 :=
  mulf (broadcastInDim S4x4096x3 ![0, 1, 2] bcast_S4x4096x1_S4x4096x3_0_1_2 (extractStridedSlice S4x4096x1 o x h)) x

/-- The features' array is the concatenation of the points and the three products. -/
theorem entry_feats (c : Dev nD) : V m c main_v9
    = concatenate (α := Elt Ideal .f32) S4x4096x12 2
        [⟨S4x4096x3, m ((c : Thread nD τ).loc main_arg0)⟩,
         ⟨S4x4096x3, prodBy ![0, 0, 0] slices_S4x4096x3_S4x4096x1_0_0_0 (m ((c : Thread nD τ).loc main_arg0))⟩,
         ⟨S4x4096x3, prodBy ![0, 0, 1] slices_S4x4096x3_S4x4096x1_0_0_1 (m ((c : Thread nD τ).loc main_arg0))⟩,
         ⟨S4x4096x3, prodBy ![0, 0, 2] slices_S4x4096x3_S4x4096x1_0_0_2 (m ((c : Thread nD τ).loc main_arg0))⟩]
        concatenates_S4x4096x3_S4x4096x3_S4x4096x3_S4x4096x3_S4x4096x12_d2 := by
  unfold V
  simp only [StableHlo.after_cons, StableHlo.after_nil]
  repeat (first
    | (rw [StableHlo.unary_result_ne]; rotate_left; decide)
    | (rw [StableHlo.binary_result_ne]; rotate_left; decide)
    | (rw [StableHlo.nullary_result_ne]; rotate_left; decide))
  refine Eq.trans (StableHlo.nary4_result _ _ _ _) ?_
  refine concat_congr ?_ ?_ ?_ ?_
  all_goals
    (after_results_simp
     after_results_loop
     rfl)

/-- The features of point `p`. -/
theorem feats_at (c : Dev nD) (b : Fin 4) (p : Fin 4096) (k : Fin 12) :
    V m c main_v9 (ix3 b p k) = feat (pt m c b p) k := by
  rw [entry_feats]
  pointwise [prodBy]
  rfl

/-- The transposed points. -/
theorem trans_at (c : Dev nD) (b : Fin 4) (a : Fin 3) (p : Fin 4096) : V m c main_v10 (ix3 b a p) = pt m c b p a := by
  entry_read
  pointwise []
  rfl

/-- The squared lengths as a row. -/
theorem sqRow_at (c : Dev nD) (b : Fin 4) (p : Fin 4096) :
    V m c main_v13 (ix3 b 0 p) = ∑ a : Fin 3, pt m c b p a * pt m c b p a := by
  entry_read
  pointwise []
  rfl

/-- The squared lengths as a column. -/
theorem sqCol_at (c : Dev nD) (b : Fin 4) (p : Fin 4096) :
    V m c main_v14 (ix3 b p 0) = ∑ a : Fin 3, pt m c b p a * pt m c b p a := by
  entry_read
  pointwise []
  rfl

/-- The grid: point `t` takes cloud `t / 8` and the queries from `512 · (t mod 8)`. -/
theorem idx : ∀ t : Fin cfg0.N, win0_0.index t = ![t.val / 8, 0, 0] ∧ win0_1.index t = ![t.val / 8, 0, 0]
    ∧ win0_2.index t = ![t.val / 8, 0, 0] ∧ win0_3.index t = ![t.val / 8, 0, 0] ∧ win0_4.index t = ![t.val / 8, t.val % 8, 0, 0]
    ∧ k0_off1 (grid0.coords t) = ![0, t.val % 8 * 512, 0] ∧ k0_off2 (grid0.coords t) = ![0, t.val % 8 * 512, 0] :=
  (by decide +kernel : ∀ t : Fin grid0.N, _)

theorem blk0_at (c : Dev nD) (t : Fin cfg0.N) (b : Fin 4) (hb : b.val = t.val / 8) (a : Fin 3) (p : Fin 4096) :
    iblk m c 0 t (ix3 0 a p) = pt m c b p a := by
  rw [← trans_at]; blk_ext [iblk, idx t]
theorem blk1_at (c : Dev nD) (t : Fin cfg0.N) (b : Fin 4) (hb : b.val = t.val / 8) (p : Fin 4096) (k : Fin 12) :
    iblk m c 1 t (ix3 0 p k) = feat (pt m c b p) k := by
  rw [← feats_at]; blk_ext [iblk, idx t]
theorem blk2_at (c : Dev nD) (t : Fin cfg0.N) (b : Fin 4) (hb : b.val = t.val / 8) (p : Fin 4096) :
    iblk m c 2 t (ix3 0 0 p) = ∑ a : Fin 3, pt m c b p a * pt m c b p a := by
  rw [← sqRow_at]; blk_ext [iblk, idx t]
theorem blk3_at (c : Dev nD) (t : Fin cfg0.N) (b : Fin 4) (hb : b.val = t.val / 8) (p : Fin 4096) :
    iblk m c 3 t (ix3 0 p 0) = ∑ a : Fin 3, pt m c b p a * pt m c b p a := by
  rw [← sqCol_at]; blk_ext [iblk, idx t]

/-- The distance between the points `n` and `p` of a cloud, squared, as both programs compute it. -/
def dist (x : Fin 4096 → Fin 3 → EReal) (n p : Fin 4096) : EReal :=
  (∑ a : Fin 3, x n a * x n a) + (∑ a : Fin 3, x p a * x p a)
    - Ideal.ofBits .f32 0x40000000#32 * ∑ a : Fin 3, x n a * x p a

/-- The distances of the block at a grid point. -/
theorem distAt_at (c : Dev nD) (t : Fin cfg0.N) (b : Fin 4) (hb : b.val = t.val / 8) (n : Fin 4096) (l : Fin 512)
    (hn : n.val = t.val % 8 * 512 + l.val) (p : Fin 4096) : distAt m c t (ix2 l p) = dist (pt m c b) n p := by
  have h1 := (idx t).2.2.2.2.2.1
  have h2 := (idx t).2.2.2.2.2.2
  pointwise [distAt, k0_pay2]
  have e3 : ∀ (i j k) , (i : Nat) = 0 → j = n.val → k = 0 → ∀ (hi hj hk), iblk m c 3 t (ix3 ⟨i, hi⟩ ⟨j, hj⟩ ⟨k, hk⟩)
      = iblk m c 3 t (ix3 0 n 0) := by
    rintro i j k rfl rfl rfl _ _ _; rfl
  have e1 : ∀ (i j k) (a : Fin 3), (i : Nat) = 0 → j = n.val → k = a.val → ∀ (hi hj hk), iblk m c 1 t (ix3 ⟨i, hi⟩ ⟨j, hj⟩ ⟨k, hk⟩)
      = iblk m c 1 t (ix3 0 n ⟨a.val, by omega⟩) := by
    rintro i j k a rfl rfl rfl _ _ _; rfl
  rw [e3 _ _ _ (by rw [h2]; rfl) (by rw [h2, hn]; rfl) (by rw [h2]; rfl), blk3_at m c t b hb, blk2_at m c t b hb]
  unfold dist
  congr 2
  refine Finset.sum_congr rfl fun a _ => ?_
  rw [e1 _ _ _ a (by rw [h1]; rfl) (by rw [h1, hn]; rfl) (by rw [h1]; exact Nat.zero_add _), blk1_at m c t b hb, blk0_at m c t b hb]
  congr 1
  show feat _ _ = _
  unfold feat
  rw [dif_pos a.isLt]

end Cert.KernelIdeal.Hand

end
-- ==== Proof.Select.lean ====
/-
  Sixteen rounds of "take the least value away" against the order of a stable sort. A row of 4096 real numbers is listed
  in ascending order, equal numbers by ascending place. If at most one of the first seventeen steps of that list is a tie,
  then sixteen rounds that each remove EVERY entry equal to the least remaining one remove the first sixteen places of the
  list, or the first seventeen; the seventeenth is then the greatest removed number at its last place.
-/
module

public import Idealize.ShloMosaic.Lib.SortFacts
public import Idealize.ShloMosaic.PureOps.Ideal

@[expose] public section

set_option maxRecDepth 16384

noncomputable section

namespace Cert.Select

open Idealize.ShloMosaic

/-! ## The stable sort -/

/-- The order the sort leaves: by value, and equal values by place. -/
def Ahead {n : Nat} (d : Fin n → ℝ) (i j : Fin n) : Prop := d i < d j ∨ (d i = d j ∧ i < j)

/-- An entry that stood in front of a sorted list and is inserted lands in order. -/
theorem ahead_insert {n : Nat} (d : Fin n → ℝ) (a : Fin n) : ∀ l : List (Fin n), (∀ b ∈ l, a < b) → l.Pairwise (Ahead d) →
    (insertBefore (fun x y => decide (d x < d y)) a l).Pairwise (Ahead d)
  | [], _, _ => by simp only [insertBefore]; exact List.pairwise_singleton _ _
  | b :: l, ha, hl => by
    have hcons := List.pairwise_cons.mp hl
    by_cases hba : d b < d a
    · have e : insertBefore (fun x y => decide (d x < d y)) a (b :: l)
          = b :: insertBefore (fun x y => decide (d x < d y)) a l := by
        simp only [insertBefore, hba, decide_true, if_true]
      rw [e, List.pairwise_cons]
      refine ⟨fun x hx => ?_, ahead_insert d a l (fun x hx => ha x (List.mem_cons.mpr (.inr hx))) hcons.2⟩
      obtain hx | hx := List.mem_cons.mp ((perm_insertBefore _ a l).mem_iff.mp hx)
      · exact hx ▸ .inl hba
      · exact hcons.1 x hx
    · have e : insertBefore (fun x y => decide (d x < d y)) a (b :: l) = a :: b :: l := by
        simp only [insertBefore, hba, decide_false, Bool.false_eq_true, if_false]
      rw [e, List.pairwise_cons]
      refine ⟨fun x hx => ?_, hl⟩
      have hax := ha x hx
      have hle : d a ≤ d x := by
        obtain rfl | hx := List.mem_cons.mp hx
        · exact not_lt.mp hba
        · rcases hcons.1 x hx with h | h
          · exact (not_lt.mp hba).trans h.le
          · exact (not_lt.mp hba).trans h.1.le
      rcases hle.lt_or_eq with h | h
      · exact .inl h
      · exact .inr ⟨h, hax⟩

/-- The stable sort of a list in ascending places is in order. -/
theorem ahead_sort {n : Nat} (d : Fin n → ℝ) : ∀ l : List (Fin n), l.Pairwise (· < ·) →
    (stableSort (fun x y => decide (d x < d y)) l).Pairwise (Ahead d)
  | [], _ => by simp only [stableSort]; exact List.Pairwise.nil
  | a :: l, hl => by
    have hcons := List.pairwise_cons.mp hl
    simp only [stableSort]
    exact ahead_insert d a _ (fun b hb => hcons.1 b ((perm_stableSort _ l).mem_iff.mp hb)) (ahead_sort d l hcons.2)

/-- The places in sorted order. -/
def order {n : Nat} (d : Fin n → ℝ) (k : Fin n) : Fin n := sortedFrom (fun x y => decide (d x < d y)) k

theorem order_ahead {n : Nat} (d : Fin n → ℝ) (i j : Fin n) (hij : i < j) : Ahead d (order d i) (order d j) := by
  have h := ahead_sort d (List.finRange n) (List.pairwise_lt_finRange n)
  exact List.pairwise_iff_get.mp h _ _ (Fin.lt_def.mpr (Fin.lt_def.mp hij))

theorem order_bijective {n : Nat} (d : Fin n → ℝ) : Function.Bijective (order d) :=
  ⟨sortedFrom_injective _, sortedFrom_surjective _⟩

/-! ## The rounds -/

variable {n : Nat} (d : Fin n → ℝ)

/-- The place of an entry in the sorted list. -/
def place (j : Fin n) : Fin n := (Equiv.ofBijective _ (order_bijective d)).symm j

theorem order_place (j : Fin n) : order d (place d j) = j :=
  (Equiv.ofBijective _ (order_bijective d)).apply_symm_apply j

theorem place_order (k : Fin n) : place d (order d k) = k :=
  (Equiv.ofBijective _ (order_bijective d)).symm_apply_apply k

/-- The `k`-th least number. -/
def nth (k : Fin n) : ℝ := d (order d k)

theorem nth_mono {i j : Fin n} (h : i ≤ j) : nth d i ≤ nth d j := by
  rcases h.lt_or_eq with h | h
  · rcases order_ahead d i j h with h | h
    · exact h.le
    · exact h.1.le
  · rw [h]

theorem val_eq_nth (j : Fin n) : d j = nth d (place d j) := by rw [nth, order_place]

/-- The row with the first `p` places of the sorted list taken away. -/
def cut (p : Nat) (j : Fin n) : EReal := if (place d j).val < p then ⊤ else (d j : EReal)

/-- One round on a row: every entry equal to the least becomes infinite. -/
def take (u : Fin n → EReal) (j : Fin n) : EReal :=
  if u j = Finset.fold min ⊤ u Finset.univ then ⊤ else u j

theorem cut_zero : cut d 0 = fun j => (d j : EReal) := by
  funext j; simp only [cut, Nat.not_lt_zero, if_false]

/-- The least of what is left. -/
theorem least_cut (p : Nat) (hp : p < n) : Finset.fold min ⊤ (cut d p) Finset.univ = (nth d ⟨p, hp⟩ : EReal) := by
  refine le_antisymm ?_ ?_
  · rw [Finset.fold_min_le]
    refine .inr ⟨order d ⟨p, hp⟩, Finset.mem_univ _, ?_⟩
    simp only [cut, place_order, lt_irrefl, if_false]
    exact le_rfl
  · rw [Finset.le_fold_min]
    refine ⟨le_top, fun j _ => ?_⟩
    unfold cut
    split
    · exact le_top
    · next h =>
      rw [val_eq_nth d j]
      exact EReal.coe_le_coe_iff.mpr (nth_mono d (Fin.le_def.mpr (not_lt.mp h)))

/-- A round takes away the places with the least number: those from `p` up to the first greater number at `q`. -/
theorem take_cut (p q : Nat) (hp : p < q) (hq : q < n) (heq : ∀ i (hi : i < n), p ≤ i → i < q → nth d ⟨i, hi⟩ = nth d ⟨p, hp.trans hq⟩)
    (hlt : nth d ⟨p, hp.trans hq⟩ < nth d ⟨q, hq⟩) : take (cut d p) = cut d q := by
  funext j
  unfold take
  rw [least_cut d p (hp.trans hq)]
  unfold cut
  by_cases h1 : (place d j).val < p
  · rw [if_pos h1, if_pos (h1.trans hp)]
    exact ite_self _
  · rw [if_neg h1]
    by_cases h2 : (place d j).val < q
    · rw [if_pos h2, if_pos]
      rw [val_eq_nth d j]
      exact congrArg _ (heq _ _ (not_lt.mp h1) h2)
    · rw [if_neg h2, if_neg]
      intro h
      rw [val_eq_nth d j, EReal.coe_eq_coe_iff] at h
      have := nth_mono d (Fin.le_def.mpr (not_lt.mp h2) : (⟨q, hq⟩ : Fin n) ≤ place d j)
      linarith

theorem take_one (p : Nat) (hp : p + 1 < n) (h : nth d ⟨p, by omega⟩ < nth d ⟨p + 1, hp⟩) : take (cut d p) = cut d (p + 1) :=
  take_cut d p (p + 1) (by omega) hp (fun i hi h1 h2 => by congr 2; omega) h

theorem take_two (p : Nat) (hp : p + 2 < n) (he : nth d ⟨p, by omega⟩ = nth d ⟨p + 1, by omega⟩)
    (h : nth d ⟨p + 1, by omega⟩ < nth d ⟨p + 2, hp⟩) : take (cut d p) = cut d (p + 2) :=
  take_cut d p (p + 2) (by omega) hp (fun i hi h1 h2 => by
    obtain rfl | rfl : i = p ∨ i = p + 1 := by omega
    · rfl
    · exact he.symm) (he ▸ h)

/-- A step of the sorted list that is a tie. -/
def Tie (hn : 17 < n) (k : Fin 17) : Prop := nth d ⟨k.val, by omega⟩ = nth d ⟨k.val + 1, by omega⟩

theorem lt_of_not_tie (hn : 17 < n) (k : Nat) (hk : k < 17) (h : ¬ Tie d hn ⟨k, hk⟩) : nth d ⟨k, by omega⟩ < nth d ⟨k + 1, by omega⟩ :=
  lt_of_le_of_ne (nth_mono d (Fin.le_def.mpr (by simp))) h

/-- SIXTEEN ROUNDS take away sixteen places, or seventeen where the last one is strictly below the next. -/
theorem rounds (hn : 17 < n) (htie : ∀ i j : Fin 17, Tie d hn i → Tie d hn j → i = j) :
    take^[16] (cut d 0) = cut d 16 ∨ take^[16] (cut d 0) = cut d 17 := by
  by_cases hany : ∃ t : Fin 16, Tie d hn ⟨t.val, by omega⟩
  · obtain ⟨t, ht⟩ := hany
    have hne : ∀ k (hk : k < 17), k ≠ t.val → nth d ⟨k, by omega⟩ < nth d ⟨k + 1, by omega⟩ := fun k hk hkt =>
      lt_of_not_tie d hn k hk fun h => hkt (Fin.mk.inj_iff.mp (htie _ _ h ht))
    have hA : ∀ k, k ≤ t.val → take^[k] (cut d 0) = cut d k := by
      intro k
      induction k with
      | zero => exact fun _ => rfl
      | succ k ih =>
        intro hk
        rw [Function.iterate_succ_apply', ih (by omega)]
        exact take_one d k (by omega) (hne k (by omega) (by omega))
    have hB : ∀ k, t.val ≤ k → k ≤ 15 → take^[k + 1] (cut d 0) = cut d (k + 2) := by
      intro k
      induction k with
      | zero =>
        intro h0 _
        have h0 : t.val = 0 := by omega
        have := hA 0 (by omega)
        rw [Function.iterate_succ_apply', this]
        refine take_two d 0 (by omega) ?_ (hne 1 (by omega) (by omega))
        have h := ht
        unfold Tie at h
        simp only [h0] at h
        exact h
      | succ k ih =>
        intro hk hk'
        by_cases hkt : t.val = k + 1
        · rw [Function.iterate_succ_apply', hA (k + 1) (by omega)]
          refine take_two d (k + 1) (by omega) ?_ (hne (k + 2) (by omega) (by omega))
          have h := ht
          unfold Tie at h
          simp only [hkt] at h
          exact h
        · rw [Function.iterate_succ_apply', ih (by omega) (by omega)]
          exact take_one d (k + 2) (by omega) (hne (k + 2) (by omega) (by omega))
    exact .inr (hB 15 (by omega) le_rfl)
  · left
    have hA : ∀ k, k ≤ 16 → take^[k] (cut d 0) = cut d k := by
      intro k
      induction k with
      | zero => exact fun _ => rfl
      | succ k ih =>
        intro hk
        rw [Function.iterate_succ_apply', ih (by omega)]
        exact take_one d k (by omega) (lt_of_not_tie d hn k (by omega) fun h => hany ⟨⟨k, by omega⟩, h⟩)
    exact hA 16 le_rfl

/-! ## The entry that is one too many -/

/-- Among the first seventeen places, an entry equal to the seventeenth number stands no later than that place's entry. -/
theorem last_of_equal (hn : 17 < n) (j : Fin n) (hj : (place d j).val < 17) (h : d j = nth d ⟨16, by omega⟩) : j ≤ order d ⟨16, by omega⟩ := by
  by_cases h16 : (place d j).val = 16
  · have : place d j = ⟨16, by omega⟩ := Fin.ext h16
    rw [← this, order_place]
  · have hlt : place d j < (⟨16, by omega⟩ : Fin n) := Fin.lt_def.mpr (by simp only; omega)
    rcases order_ahead d _ _ hlt with h' | h'
    · rw [order_place] at h'
      exact absurd h (ne_of_lt h')
    · rw [order_place] at h'
      exact h'.2.le

/-- The greatest of the first seventeen numbers, every other entry counted as minus infinity. -/
theorem greatest (hn : 17 < n) : Finset.fold max ⊥ (fun j => if (place d j).val < 17 then (d j : EReal) else ⊥) Finset.univ
    = (nth d ⟨16, by omega⟩ : EReal) := by
  refine le_antisymm ?_ ?_
  · rw [Finset.fold_max_le]
    refine ⟨bot_le, fun j _ => ?_⟩
    split
    · next h =>
      rw [val_eq_nth d j]
      exact EReal.coe_le_coe_iff.mpr (nth_mono d (Fin.le_def.mpr (by simp only; omega)))
    · exact bot_le
  · rw [Finset.le_fold_max]
    refine .inr ⟨order d ⟨16, by omega⟩, Finset.mem_univ _, ?_⟩
    rw [place_order, if_pos (by simp)]
    exact le_rfl

/-- A sum over the entries of the first `p` places is the sum along the sorted list. -/
theorem sum_first (p : Nat) (hp : p ≤ n) (f : Fin n → ℝ) :
    ∑ j, (if (place d j).val < p then f j else 0) = ∑ k : Fin p, f (order d ⟨k.val, by omega⟩) := by
  rw [← (Equiv.ofBijective _ (order_bijective d)).sum_comp]
  have e : ∀ i : Fin n, (if (place d ((Equiv.ofBijective _ (order_bijective d)) i)).val < p then f ((Equiv.ofBijective _ (order_bijective d)) i) else 0)
      = if i.val < p then f (order d i) else 0 := fun i => by
    show (if (place d (order d i)).val < p then f (order d i) else 0) = _
    rw [place_order]
  rw [Finset.sum_congr rfl fun i _ => e i, ← Finset.sum_filter]
  symm
  refine Finset.sum_bij (fun k _ => (⟨k.val, by omega⟩ : Fin n)) (fun k _ => ?_) (fun a _ b _ h => ?_) (fun b hb => ?_) (fun _ _ => rfl)
  · exact Finset.mem_filter.mpr ⟨Finset.mem_univ _, k.isLt⟩
  · exact Fin.ext (Fin.mk.inj_iff.mp h)
  · exact ⟨⟨b.val, (Finset.mem_filter.mp hb).2⟩, Finset.mem_univ _, rfl⟩

end Cert.Select

end
-- ==== Proof.Newton.lean ====
/-
  Real arithmetic of the closed form of the eigenvalues: Newton's method on `4c³ − 3c = r` from the two ends `1` and
  `−1`, and the bound `|det B / 2| ≤ 1` for a traceless symmetric matrix `B` of squared norm at most `6`. Pure
  mathematics over `ℝ`; no program is named here.
-/
module

public import Mathlib.Data.Real.Basic
public import Mathlib.Algebra.Order.BigOperators.Ring.Finset
public import Mathlib.Data.Fin.VecNotation
public import Mathlib.Algebra.BigOperators.Fin
public import Mathlib.Tactic.Positivity
public import Mathlib.Tactic.Linarith
public import Mathlib.Tactic.FieldSimp
public import Mathlib.Tactic.NormNum
public import Mathlib.Tactic.LinearCombination

@[expose] public section

noncomputable section

namespace Cert.Newton

/-- One Newton step for `4c³ − 3c − r`. -/
def step (r c : ℝ) : ℝ := c - (4 * c * c * c - 3 * c - r) / (12 * c * c - 3)

/-- The step with a floor `g` under the derivative and the result kept in `[lo, hi]`. -/
def gstep (g lo hi r c : ℝ) : ℝ :=
  min hi (max lo (c - ((4 * c * c - 3) * c - r) / max (12 * c * c - 3) g))

/-- Where an iterate of the step from `1` can be: above the double point `1/2` by a margin that halves, at most `1`, and
    where the polynomial is not negative. -/
def Inv (k : ℕ) (r c : ℝ) : Prop := 1 / 2 + (1 / 2) ^ (k + 1) ≤ c ∧ c ≤ 1 ∧ 0 ≤ 4 * c * c * c - 3 * c - r

/-- The start `1` is such a place. -/
theorem inv_zero (r : ℝ) (h1 : r ≤ 1) : Inv 0 r 1 := by
  refine ⟨by norm_num, le_refl _, by linarith⟩

/-- One step leads from such a place to the next one. -/
theorem inv_step (k : ℕ) (r c : ℝ) (h0 : -1 ≤ r) (h : Inv k r c) : Inv (k + 1) r (step r c) := by
  obtain ⟨hlo, hhi, hF⟩ := h
  have hp : (0 : ℝ) < (1 / 2) ^ (k + 1) := by positivity
  set u := c - 1 / 2 with hu
  have hu0 : 0 < u := by linarith
  have hc : c = 1 / 2 + u := by rw [hu]; ring
  have hD : (0 : ℝ) < 12 * c * c - 3 := by rw [hc]; nlinarith
  set s := (4 * c * c * c - 3 * c - r) / (12 * c * c - 3) with hs
  have hs0 : 0 ≤ s := div_nonneg hF hD.le
  have hsu : s ≤ u / 2 := by
    rw [hs, div_le_iff₀ hD, hc]
    nlinarith [mul_pos hu0 hu0, mul_pos (mul_pos hu0 hu0) hu0]
  have hsD : s * (12 * c * c - 3) = 4 * c * c * c - 3 * c - r := by rw [hs]; exact div_mul_cancel₀ _ hD.ne'
  have hst : step r c = c - s := rfl
  refine ⟨?_, ?_, ?_⟩
  · rw [hst, pow_succ]; linarith
  · rw [hst]; linarith
  · rw [hst]
    have : 4 * (c - s) * (c - s) * (c - s) - 3 * (c - s) - r = s * s * (12 * c - 4 * s) := by
      linear_combination (-1 : ℝ) * hsD
    rw [this]
    exact mul_nonneg (mul_nonneg hs0 hs0) (by linarith)

/-- At such a place within the first 28 steps the floor and the bounds of the guarded step do nothing. -/
theorem gstep_eq (g : ℝ) (hg : g ≤ (1 / 2) ^ 29) (k : ℕ) (hk : k ≤ 28) (r c : ℝ) (h0 : -1 ≤ r) (h : Inv k r c) :
    gstep g (1 / 2) 1 r c = step r c := by
  have hn := inv_step k r c h0 h
  obtain ⟨hlo, hhi, hF⟩ := h
  have hp : ((1 : ℝ) / 2) ^ 29 ≤ (1 / 2) ^ (k + 1) :=
    pow_le_pow_of_le_one (by norm_num) (by norm_num) (by omega)
  have hp0 : (0 : ℝ) < (1 / 2) ^ 29 := by positivity
  have hD : g ≤ 12 * c * c - 3 := by nlinarith
  have hn1 : 1 / 2 ≤ step r c := le_trans (by have : (0 : ℝ) < (1 / 2) ^ (k + 1 + 1) := by positivity
                                              linarith) hn.1
  unfold gstep
  rw [max_eq_left hD]
  have e : c - ((4 * c * c - 3) * c - r) / (12 * c * c - 3) = step r c := by unfold step; congr 2; ring
  rw [e, max_eq_right hn1, min_eq_right hn.2.1]

/-- The `k`-th iterate of Newton's method from `1`. -/
def hi (r : ℝ) (k : ℕ) : ℝ := (step r)^[k] 1

/-- The `k`-th iterate of Newton's method from `−1`. -/
def lo (r : ℝ) (k : ℕ) : ℝ := (step r)^[k] (-1)

theorem hi_succ (r : ℝ) (k : ℕ) : hi r (k + 1) = step r (hi r k) := Function.iterate_succ_apply' _ _ _
theorem lo_succ (r : ℝ) (k : ℕ) : lo r (k + 1) = step r (lo r k) := Function.iterate_succ_apply' _ _ _

/-- Every iterate from `1` is at such a place. -/
theorem inv_hi (r : ℝ) (h0 : -1 ≤ r) (h1 : r ≤ 1) : ∀ k, Inv k r (hi r k)
  | 0 => inv_zero r h1
  | k + 1 => by rw [hi_succ]; exact inv_step k r _ h0 (inv_hi r h0 h1 k)

/-- The step is odd: negating root and right side negates the result. -/
theorem step_neg (r c : ℝ) : step r (-c) = -step (-r) c := by
  unfold step
  have : 4 * -c * -c * -c - 3 * -c - r = -(4 * c * c * c - 3 * c - -r) := by ring
  rw [this, show 12 * -c * -c - 3 = 12 * c * c - 3 by ring, neg_div]; ring

/-- The iterates from `−1` are the negatives of those from `1` for `−r`. -/
theorem lo_eq (r : ℝ) : ∀ k, lo r k = -hi (-r) k
  | 0 => rfl
  | k + 1 => by rw [lo_succ, hi_succ, lo_eq r k, step_neg]

/-- The guarded step is odd in the same sense. -/
theorem gstep_neg (g a b r c : ℝ) (hab : a ≤ b) : gstep g (-b) (-a) r (-c) = -gstep g a b (-r) c := by
  unfold gstep
  have e : -c - ((4 * -c * -c - 3) * -c - r) / max (12 * -c * -c - 3) g
      = -(c - ((4 * c * c - 3) * c - -r) / max (12 * c * c - 3) g) := by
    rw [show 12 * -c * -c - 3 = 12 * c * c - 3 by ring,
      show (4 * -c * -c - 3) * -c - r = -((4 * c * c - 3) * c - -r) by ring, neg_div]; ring
  rw [e, max_neg_neg, min_neg_neg]
  generalize c - ((4 * c * c - 3) * c - -r) / max (12 * c * c - 3) g = X
  rw [max_min_distrib_left, max_eq_right hab]

/-- The guarded iteration from `1` takes the plain step, 28 times. -/
theorem gstep_hi (g : ℝ) (hg : g ≤ (1 / 2) ^ 29) (r : ℝ) (h0 : -1 ≤ r) (h1 : r ≤ 1) (k : ℕ) (hk : k ≤ 28) :
    gstep g (1 / 2) 1 r (hi r k) = hi r (k + 1) := by
  rw [hi_succ]; exact gstep_eq g hg k hk r _ h0 (inv_hi r h0 h1 k)

/-- The guarded iteration from `−1` takes the plain step, 28 times. -/
theorem gstep_lo (g : ℝ) (hg : g ≤ (1 / 2) ^ 29) (r : ℝ) (h0 : -1 ≤ r) (h1 : r ≤ 1) (k : ℕ) (hk : k ≤ 28) :
    gstep g (-1) (-(1 / 2)) r (lo r k) = lo r (k + 1) := by
  rw [lo_eq, lo_eq, gstep_neg g (1 / 2) 1 r _ (by norm_num), gstep_hi g hg (-r) (by linarith) (by linarith) k hk]

/-- The derivative is positive at the iterates from `1`. -/
theorem hi_deriv (r : ℝ) (h0 : -1 ≤ r) (h1 : r ≤ 1) (k : ℕ) : 0 < 12 * hi r k * hi r k - 3 := by
  obtain ⟨hlo, -, -⟩ := inv_hi r h0 h1 k
  have hp : (0 : ℝ) < (1 / 2) ^ (k + 1) := by positivity
  nlinarith

/-- The derivative is positive at the iterates from `−1`. -/
theorem lo_deriv (r : ℝ) (h0 : -1 ≤ r) (h1 : r ≤ 1) (k : ℕ) : 0 < 12 * lo r k * lo r k - 3 := by
  have := hi_deriv (-r) (by linarith) (by linarith) k
  rw [lo_eq]; nlinarith

/-- A traceless symmetric `3 × 3` matrix of squared norm at most `6` has a determinant between `−2` and `2`. -/
theorem det_bound (a b c d e f : ℝ) (ht : a + b + c = 0)
    (hS : a * a + b * b + c * c + 2 * (d * d + e * e + f * f) ≤ 6) :
    |a * (b * c - f * f) - d * (d * c - f * e) + e * (d * f - b * e)| ≤ 2 := by
  -- `c` is `−a − b`; with `S` the squared norm, `M = B² − (S/3)·1`: `⟨B, M⟩ = 3 det B`, `|M|² = S²/6`
  obtain rfl : c = -a - b := by linarith
  set D := a * (b * (-a - b) - f * f) - d * (d * (-a - b) - f * e) + e * (d * f - b * e) with hD
  set S := a * a + b * b + (-a - b) * (-a - b) + 2 * (d * d + e * e + f * f) with hSd
  have hS0 : 0 ≤ S := by
    have := mul_self_nonneg a; have := mul_self_nonneg b; have := mul_self_nonneg (-a - b)
    have := mul_self_nonneg d; have := mul_self_nonneg e; have := mul_self_nonneg f
    rw [hSd]; linarith
  have cs := Finset.sum_mul_sq_le_sq_mul_sq (Finset.univ : Finset (Fin 9))
    ![a, b, -a - b, d, d, e, e, f, f]
    ![a * a + d * d + e * e - S / 3, d * d + b * b + f * f - S / 3, e * e + f * f + (-a - b) * (-a - b) - S / 3,
      a * d + d * b + e * f, a * d + d * b + e * f, a * e + d * f + e * (-a - b), a * e + d * f + e * (-a - b),
      d * e + b * f + f * (-a - b), d * e + b * f + f * (-a - b)]
  simp only [Fin.sum_univ_succ, Fin.sum_univ_zero, Matrix.cons_val_zero, Matrix.cons_val_succ, Fin.isValue,
    add_zero] at cs
  have h1 : a * (a * a + d * d + e * e - S / 3) + (b * (d * d + b * b + f * f - S / 3)
      + ((-a - b) * (e * e + f * f + (-a - b) * (-a - b) - S / 3)
      + (d * (a * d + d * b + e * f) + (d * (a * d + d * b + e * f) + (e * (a * e + d * f + e * (-a - b))
      + (e * (a * e + d * f + e * (-a - b)) + (f * (d * e + b * f + f * (-a - b))
      + f * (d * e + b * f + f * (-a - b))))))))) = 3 * D := by rw [hSd, hD]; ring
  have h2 : a ^ 2 + (b ^ 2 + ((-a - b) ^ 2 + (d ^ 2 + (d ^ 2 + (e ^ 2 + (e ^ 2 + (f ^ 2 + f ^ 2))))))) = S := by
    rw [hSd]; ring
  have h3 : (a * a + d * d + e * e - S / 3) ^ 2 + ((d * d + b * b + f * f - S / 3) ^ 2
      + ((e * e + f * f + (-a - b) * (-a - b) - S / 3) ^ 2
      + ((a * d + d * b + e * f) ^ 2 + ((a * d + d * b + e * f) ^ 2 + ((a * e + d * f + e * (-a - b)) ^ 2
      + ((a * e + d * f + e * (-a - b)) ^ 2 + ((d * e + b * f + f * (-a - b)) ^ 2
      + (d * e + b * f + f * (-a - b)) ^ 2))))))) = S * S / 6 := by rw [hSd]; ring
  rw [h1, h2, h3] at cs
  clear_value S D
  clear h1 h2 h3 hD hSd
  have h36 : S * S ≤ 36 := by
    have := mul_le_mul hS hS hS0 (by norm_num : (0 : ℝ) ≤ 6)
    linarith
  have h6 : S * (S * S) ≤ 216 := by
    have := mul_le_mul hS h36 (mul_self_nonneg S) (by norm_num : (0 : ℝ) ≤ 6)
    linarith
  have hD2 : D ^ 2 ≤ 2 ^ 2 := by
    have e1 : (3 * D) ^ 2 = 9 * D ^ 2 := by ring
    have e2 : S * (S * S / 6) = S * (S * S) / 6 := by ring
    rw [e1, e2] at cs
    linarith
  exact abs_le_of_sq_le_sq hD2 (by norm_num)

end Cert.Newton

end
-- ==== Proof.Closed.lean ====
/-
  The closed form of the ratio of the two outer eigenvalues of a symmetric `3 × 3` matrix, over the reals, the values of
  the float constants that occur, and how the extended-real operations act on real numbers.
-/
module

public import proofs.«01_k».proof.Proof.Newton
public import Idealize.ShloMosaic.PureOps.Ideal

@[expose] public section

noncomputable section

namespace Cert.Closed

open Idealize.ShloMosaic

/-! ## Constants -/

/-- The floor under the derivative of the Newton steps, about `10⁻¹²`. -/
def gN : ℝ := 9223372 / 2 ^ 63

/-- The floor under the scale of the deviator, about `10⁻²⁰`. -/
def gP : ℝ := 12379400 / 2 ^ 90

theorem gN_le : gN ≤ (1 / 2) ^ 29 := by norm_num [gN]
theorem gP_pos : 0 < gP := by norm_num [gP]

theorem k_sixteenth : Ideal.ofBits .f32 0x3D800000#32 = ((1 / 16 : ℝ) : EReal) := by
  simp [Ideal.ofBits, Ideal.ieee, -EReal.coe_mul]; norm_num
theorem k_sixteen : Ideal.ofBits .f32 0x41800000#32 = ((16 : ℝ) : EReal) := by
  simp [Ideal.ofBits, Ideal.ieee, -EReal.coe_mul]; norm_num
theorem k_two : Ideal.ofBits .f32 0x40000000#32 = ((2 : ℝ) : EReal) := by
  simp [Ideal.ofBits, Ideal.ieee, -EReal.coe_mul]; norm_num
theorem k_three : Ideal.ofBits .f32 0x40400000#32 = ((3 : ℝ) : EReal) := by
  simp [Ideal.ofBits, Ideal.ieee, -EReal.coe_mul]; norm_num
theorem k_four : Ideal.ofBits .f32 0x40800000#32 = ((4 : ℝ) : EReal) := by
  simp [Ideal.ofBits, Ideal.ieee, -EReal.coe_mul]; norm_num
theorem k_six : Ideal.ofBits .f32 0x40C00000#32 = ((6 : ℝ) : EReal) := by
  simp [Ideal.ofBits, Ideal.ieee, -EReal.coe_mul]; norm_num
theorem k_twelve : Ideal.ofBits .f32 0x41400000#32 = ((12 : ℝ) : EReal) := by
  simp [Ideal.ofBits, Ideal.ieee, -EReal.coe_mul]; norm_num
theorem k_one : Ideal.ofBits .f32 0x3F800000#32 = ((1 : ℝ) : EReal) := by
  simp [Ideal.ofBits, Ideal.ieee, -EReal.coe_mul]; norm_num
theorem k_zero : Ideal.ofBits .f32 0x00000000#32 = ((0 : ℝ) : EReal) := by
  simp [Ideal.ofBits, Ideal.ieee, -EReal.coe_mul]
theorem k_half : Ideal.ofBits .f32 0x3F000000#32 = ((1 / 2 : ℝ) : EReal) := by
  simp [Ideal.ofBits, Ideal.ieee, -EReal.coe_mul]; norm_num
theorem k_mhalf : Ideal.ofBits .f32 0xBF000000#32 = ((-(1 / 2) : ℝ) : EReal) := by
  simp [Ideal.ofBits, Ideal.ieee, -EReal.coe_mul]; norm_num
theorem k_mone : Ideal.ofBits .f32 0xBF800000#32 = ((-1 : ℝ) : EReal) := by
  simp [Ideal.ofBits, Ideal.ieee, -EReal.coe_mul]; norm_num
theorem k_gN : Ideal.ofBits .f32 0x2B8CBCCC#32 = ((gN : ℝ) : EReal) := by
  simp [Ideal.ofBits, Ideal.ieee, -EReal.coe_mul, gN]; norm_num
theorem k_gP : Ideal.ofBits .f32 0x1E3CE508#32 = ((gP : ℝ) : EReal) := by
  simp [Ideal.ofBits, Ideal.ieee, -EReal.coe_mul, gP]; norm_num

/-! ## Extended-real operations on real numbers -/

theorem coe_max (a b : ℝ) : max (a : EReal) (b : EReal) = ((max a b : ℝ) : EReal) :=
  (EReal.coe_strictMono.monotone.map_max).symm
theorem coe_min (a b : ℝ) : min (a : EReal) (b : EReal) = ((min a b : ℝ) : EReal) :=
  (EReal.coe_strictMono.monotone.map_min).symm
theorem coe_div (a b : ℝ) (hb : b ≠ 0) : Ideal.div (a : EReal) (b : EReal) = ((a / b : ℝ) : EReal) := by
  rw [Ideal.div_coe hb, ← EReal.coe_mul, mul_one_div]
theorem coe_sqrt (a : ℝ) (ha : 0 ≤ a) : Ideal.sqrt (a : EReal) = ((Real.sqrt a : ℝ) : EReal) := by
  rw [Ideal.sqrt_coe, if_neg (not_lt.mpr ha)]
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The closed form, of a symmetric matrix `a d e / d b f / e f c` -/

/-- A third of the trace. -/
def q (a b c : ℝ) : ℝ := (a + b + c) / 3

/-- The squared norm of the matrix with diagonal `a b c` and the off-diagonal `d e f`. -/
def nrm (a b c d e f : ℝ) : ℝ := a * a + b * b + c * c + 2 * (d * d + e * e + f * f)

/-- The determinant. -/
def det (a b c d e f : ℝ) : ℝ := a * (b * c - f * f) - d * (d * c - f * e) + e * (d * f - b * e)

/-- The scale of the deviator. -/
def p (a b c d e f : ℝ) : ℝ := Real.sqrt (nrm (a - q a b c) (b - q a b c) (c - q a b c) d e f / 6)

/-- One over the scale kept above its floor. -/
def inv (a b c d e f : ℝ) : ℝ := 1 / max (p a b c d e f) gP

/-- Half the determinant of the scaled deviator. -/
def r (a b c d e f : ℝ) : ℝ :=
  det ((a - q a b c) * inv a b c d e f) ((b - q a b c) * inv a b c d e f) ((c - q a b c) * inv a b c d e f)
    (d * inv a b c d e f) (e * inv a b c d e f) (f * inv a b c d e f) / 2

/-- The largest eigenvalue over the middle one, from the roots that 28 Newton steps reach. -/
def ratio (q p r : ℝ) : EReal :=
  Ideal.div ((q + 2 * p * Newton.hi r 28 : ℝ) : EReal) ((q + 2 * p * (-(Newton.hi r 28 + Newton.lo r 28)) : ℝ) : EReal)

theorem nrm_nonneg (a b c d e f : ℝ) : 0 ≤ nrm a b c d e f := by
  unfold nrm
  have := mul_self_nonneg a; have := mul_self_nonneg b; have := mul_self_nonneg c
  have := mul_self_nonneg d; have := mul_self_nonneg e; have := mul_self_nonneg f
  linarith

theorem floor_pos (x : ℝ) : 0 < max x gP := lt_of_lt_of_le gP_pos (le_max_right _ _)

/-- The scaled deviator has squared norm at most `6`, so half its determinant is between `−1` and `1`. -/
theorem r_bound (a b c d e f : ℝ) : -1 ≤ r a b c d e f ∧ r a b c d e f ≤ 1 := by
  have hN := nrm_nonneg (a - q a b c) (b - q a b c) (c - q a b c) d e f
  have hp0 : 0 ≤ p a b c d e f := Real.sqrt_nonneg _
  have hp2 : p a b c d e f * p a b c d e f = nrm (a - q a b c) (b - q a b c) (c - q a b c) d e f / 6 :=
    Real.mul_self_sqrt (by linarith)
  have hm : p a b c d e f ≤ max (p a b c d e f) gP := le_max_left _ _
  have hM := floor_pos (p a b c d e f)
  have hi : inv a b c d e f * max (p a b c d e f) gP = 1 := by unfold inv; exact one_div_mul_cancel hM.ne'
  have h := det_bound' (a := a) (b := b) (c := c) (d := d) (e := e) (f := f) hN hp0 hp2 hm hM hi
  have := abs_le.mp h
  unfold r
  constructor <;> linarith [this.1, this.2]
where
  det_bound' {a b c d e f : ℝ} (hN : 0 ≤ nrm (a - q a b c) (b - q a b c) (c - q a b c) d e f) (hp0 : 0 ≤ p a b c d e f)
      (hp2 : p a b c d e f * p a b c d e f = nrm (a - q a b c) (b - q a b c) (c - q a b c) d e f / 6)
      (hm : p a b c d e f ≤ max (p a b c d e f) gP) (hM : 0 < max (p a b c d e f) gP)
      (hi : inv a b c d e f * max (p a b c d e f) gP = 1) :
      |det ((a - q a b c) * inv a b c d e f) ((b - q a b c) * inv a b c d e f) ((c - q a b c) * inv a b c d e f)
        (d * inv a b c d e f) (e * inv a b c d e f) (f * inv a b c d e f)| ≤ 2 := by
    refine Newton.det_bound _ _ _ _ _ _ ?_ ?_
    · unfold q; ring
    · generalize inv a b c d e f = i at *
      generalize max (p a b c d e f) gP = x at *
      generalize p a b c d e f = y at *
      have e1 : nrm (a - q a b c) (b - q a b c) (c - q a b c) d e f = 6 * (y * y) := by linarith
      have e2 : (a - q a b c) * i * ((a - q a b c) * i) + (b - q a b c) * i * ((b - q a b c) * i)
          + (c - q a b c) * i * ((c - q a b c) * i)
          + 2 * (d * i * (d * i) + e * i * (e * i) + f * i * (f * i))
          = nrm (a - q a b c) (b - q a b c) (c - q a b c) d e f * (i * i) := by unfold nrm; ring
      rw [e2, e1]
      have hyx : y * y ≤ x * x := mul_le_mul hm hm hp0 hM.le
      have hii : 0 ≤ i * i := mul_self_nonneg i
      have e3 : x * x * (i * i) = 1 := by
        have : x * x * (i * i) = (i * x) * (i * x) := by ring
        rw [this, hi, one_mul]
      have := mul_le_mul_of_nonneg_right hyx hii
      linarith

end Cert.Closed

end
-- ==== Proof.KSelect.lean ====
/-
  The selection of the kernel, on a row whose distances are real numbers: the sums of the features are the sums over the
  first sixteen entries of the stable sort.
-/
module

public import proofs.«01_k».proof.Proof.KInput
public import proofs.«01_k».proof.Proof.Select
public import proofs.«01_k».proof.Proof.Closed

@[expose] public section

set_option maxRecDepth 16384

noncomputable section

namespace Cert.KernelIdeal.Hand

open Cert.KernelIdeal Cert.KernelIdeal.Gen Idealize.ShloMosaic Idealize.ShloMosaic.TcCoe Idealize.SL.Sem
open Cert.Select

/-! ## Constants and words -/

theorem k_top : Ideal.ofBits .f32 0x7F800000#32 = ⊤ := by simp [Ideal.ofBits, Ideal.ieee]
theorem k_bot : Ideal.ofBits .f32 0xFF800000#32 = ⊥ := by simp [Ideal.ofBits, Ideal.ieee]

theorem select_ofBool {α : Type} (p : Prop) [Decidable p] (a b : α) :
    Scalar.select (BitVec.ofBool (decide p)) a b = if p then a else b := by
  by_cases h : p <;> simp [h, Scalar.select]

theorem andi_ofBool (p r : Prop) [Decidable p] [Decidable r] :
    IntOp.andi (BitVec.ofBool (decide p)) (BitVec.ofBool (decide r)) = BitVec.ofBool (decide (p ∧ r)) := by
  by_cases h : p <;> by_cases h' : r <;> simp [h, h', IntOp.andi]

theorem xori_one (p : Prop) [Decidable p] : IntOp.xori (BitVec.ofBool (decide p)) 1#1 = BitVec.ofBool (decide (¬ p)) := by
  by_cases h : p <;> simp [h, IntOp.xori]

theorem drop_none (a b : BitVec 1) (p : Prop) [Decidable p] (hp : ¬ p) :
    IntOp.andi a (IntOp.xori (IntOp.andi b (BitVec.ofBool (decide p))) 1#1) = a := by
  rw [decide_eq_false hp]
  unfold IntOp.andi IntOp.xori
  revert a b
  decide

theorem toInt_maxsi (a b : BitVec 32) : (IntOp.maxsi a b).toInt = max a.toInt b.toInt := by
  unfold IntOp.maxsi
  rw [BitVec.slt_eq_decide]
  by_cases h : b.toInt < a.toInt
  · simp [h, max_eq_left h.le]
  · simp [h, max_eq_right (not_lt.mp h)]

theorem fold_maxsi_le {ι : Type} (s : Finset ι) (g : ι → BitVec 32) (z : BitVec 32) (c : Int) :
    (Finset.fold IntOp.maxsi z g s).toInt ≤ c ↔ z.toInt ≤ c ∧ ∀ x ∈ s, (g x).toInt ≤ c := by
  classical
  induction s using Finset.induction_on with
  | empty => simp
  | insert a s ha ih =>
    rw [Finset.fold_insert ha, toInt_maxsi, max_le_iff, ih]
    constructor
    · rintro ⟨h1, h2, h3⟩
      refine ⟨h2, fun x hx => ?_⟩
      rcases Finset.mem_insert.mp hx with rfl | hx
      · exact h1
      · exact h3 x hx
    · rintro ⟨h1, h2⟩
      exact ⟨h2 a (Finset.mem_insert_self _ _), h1, fun x hx => h2 x (Finset.mem_insert_of_mem hx)⟩

theorem toInt_place (j : Fin 4096) : (BitVec.ofNat 32 j.val).toInt = (j.val : Int) := by
  have := j.isLt
  rw [BitVec.toInt_eq_toNat_of_lt (by rw [BitVec.toNat_ofNat]; omega), BitVec.toNat_ofNat]
  congr 1; omega

/-- The greatest of the places that satisfy `P`, every other place read as `-1`. -/
theorem last_place (P : Fin 4096 → Prop) [DecidablePred P] (j : Fin 4096) (hj : P j) (hmax : ∀ i, P i → i ≤ j) :
    Finset.fold IntOp.maxsi 2147483648#32 (fun x : Fin 4096 => if P x then BitVec.ofNat 32 x.val else 4294967295#32) Finset.univ
      = BitVec.ofNat 32 j.val := by
  refine BitVec.eq_of_toInt_eq (le_antisymm ?_ ?_)
  · rw [fold_maxsi_le, toInt_place]
    refine ⟨?_, fun x _ => ?_⟩
    · have : (2147483648#32).toInt = -2147483648 := by decide
      rw [this]; omega
    · split
      · next h => rw [toInt_place]; exact_mod_cast hmax x h
      · have : (4294967295#32).toInt = -1 := by decide
        rw [this]; omega
  · have h := ((fold_maxsi_le Finset.univ (fun x : Fin 4096 => if P x then BitVec.ofNat 32 x.val else 4294967295#32) 2147483648#32 _).mp le_rfl).2 j (Finset.mem_univ _)
    rwa [if_pos hj] at h

/-! ## The rounds of a row -/

theorem round_at (v : FVec Ideal S512x4096 .f32) (l : Fin 512) :
    (fun j => round v (ix2 l j)) = take (fun j => v (ix2 l j)) := by
  funext j
  pointwise [round]
  rw [k_top]
  rfl

theorem rounds_at (v : FVec Ideal S512x4096 .f32) (l : Fin 512) :
    ∀ k, (fun j => (round^[k] v) (ix2 l j)) = take^[k] (fun j => v (ix2 l j))
  | 0 => rfl
  | k + 1 => by rw [Function.iterate_succ_apply', Function.iterate_succ_apply', round_at, rounds_at v l k]

variable (D : FVec Ideal S512x4096 .f32) (l : Fin 512) (d : Fin 4096 → ℝ) (hD : ∀ j, D (ix2 l j) = (d j : EReal))

theorem abs_ne_top (a : ℝ) : FloatOps.absf (F := Ideal) (φ := .f32) (a : EReal) ≠ ⊤ := by
  show max (a : EReal) (-(a : EReal)) ≠ ⊤
  rw [← EReal.coe_neg, Cert.Closed.coe_max]
  exact EReal.coe_ne_top _

theorem abs_top : FloatOps.absf (F := Ideal) (φ := .f32) (⊤ : EReal) = ⊤ := by
  show max (⊤ : EReal) (-⊤) = ⊤
  simp

include hD in
/-- The mask holds the first `p` places. -/
theorem mask_at (p : Nat) (hp : take^[16] (cut d 0) = cut d p) (j : Fin 4096) :
    maskOf D (ix2 l j) = BitVec.ofBool (decide ((place d j).val < p)) := by
  have h : (round^[16] D) (ix2 l j) = cut d p j := by
    have e := congrFun (rounds_at D l 16) j
    have e0 : (fun j => D (ix2 l j)) = cut d 0 := by rw [cut_zero]; funext j; exact hD j
    rw [e0, hp] at e
    exact e
  unfold maskOf
  pointwise [marked]
  rw [h, k_top]
  refine congrArg BitVec.ofBool (decide_eq_decide.mpr ?_)
  unfold cut
  by_cases hj : (place d j).val < p
  · rw [if_pos hj]; exact ⟨fun _ => hj, fun _ => abs_top⟩
  · rw [if_neg hj]; exact ⟨fun h => absurd h (abs_ne_top _), fun h => absurd h hj⟩

include hD in
/-- The count of the mask less sixteen. -/
theorem excess_at (p : Nat) (hp4 : p ≤ 4096) (hp : take^[16] (cut d 0) = cut d p) :
    excess (F := Ideal) (maskOf D) (ix2 l 0) = (((p : ℝ) - 16 : ℝ) : EReal) := by
  have hm := mask_at D l d hD p hp
  generalize maskOf D = M at hm ⊢
  pointwise [excess]
  rw [Cert.Closed.k_sixteen]
  have e : ∀ j : Fin 4096, Scalar.select (M (ix2 l j)) (1 : EReal) 0
      = (((if (place d j).val < p then 1 else 0 : ℝ)) : EReal) := fun j => by
    rw [hm, select_ofBool]
    split <;> simp
  rw [Finset.sum_congr rfl fun j _ => e j, Cert.Closed.coe_sum, sum_first d p hp4 (fun _ => 1), ← EReal.coe_sub]
  simp

include hD in
/-- THE SUMS OF THE FEATURES are the sums over the first sixteen entries of the stable sort. -/
theorem mom_at (htie : ∀ i j : Fin 17, Tie d (by norm_num) i → Tie d (by norm_num) j → i = j)
    (f : Vec Ideal S1x4096x12 .f32) (k : Fin 12) (g : Fin 4096 → ℝ) (hg : ∀ j, f (ix3 0 j k) = (g j : EReal)) :
    momOf D f (ix2 k l) = ((∑ r : Fin 16, g (order d ⟨r.val, by omega⟩) : ℝ) : EReal) := by
  have fin : ∀ S : Fin 4096 → Prop, ∀ _ : DecidablePred S, (∀ j, S j ↔ (place d j).val < 16) →
      (∑ j, if S j then f (ix3 0 j k) else (0 : EReal)) = ((∑ r : Fin 16, g (order d ⟨r.val, by omega⟩) : ℝ) : EReal) := by
    intro S _ hS
    rw [← sum_first d 16 (by norm_num) g, ← Cert.Closed.coe_sum]
    refine Finset.sum_congr rfl fun j _ => ?_
    rw [hg]
    by_cases h : (place d j).val < 16
    · rw [if_pos h, if_pos ((hS j).mpr h)]
    · rw [if_neg h, if_neg (fun h' => h ((hS j).mp h'))]; simp
  unfold momOf
  pointwise [k0_pay10]
  rcases rounds d (by norm_num) htie with hp | hp
  · simp only [mask_at D l d hD 16 hp, excess_at D l d hD 16 (by norm_num) hp]
    have e0 : ¬ ((0 : EReal) < ((((16 : ℕ) : ℝ) - 16 : ℝ) : EReal)) := by norm_num
    simp only [drop_none _ _ _ e0, select_ofBool]
    exact fin _ _ fun j => Iff.rfl
  · simp only [mask_at D l d hD 17 hp, excess_at D l d hD 17 (by norm_num) hp]
    have e0 : ((0 : EReal) < ((((17 : ℕ) : ℝ) - 16 : ℝ) : EReal)) := by norm_num
    simp only [e0, hD, k_bot, select_ofBool, greatest d (by norm_num), andi_ofBool]
    rw [last_place (fun x => (place d x).val < 17 ∧ (d x : EReal) = (nth d ⟨16, by norm_num⟩ : EReal)) (order d ⟨16, by norm_num⟩)
      ⟨by rw [place_order]; norm_num, rfl⟩
      (fun i hi => last_of_equal d (by norm_num) i hi.1 (EReal.coe_eq_coe_iff.mp hi.2))]
    have ec : ∀ x : Fin 4096, IntOp.cmpi CmpIPredicate.eq (BitVec.ofNat 32 x.val) (BitVec.ofNat 32 (order d ⟨16, by norm_num⟩).val)
        = BitVec.ofBool (decide ((place d x).val = 16)) := fun x => by
      have h1 : (BitVec.ofNat 32 x.val = BitVec.ofNat 32 (order d ⟨16, by norm_num⟩).val) ↔ (place d x).val = 16 := by
        constructor
        · intro h
          have h := congrArg BitVec.toInt h
          rw [toInt_place, toInt_place] at h
          have h : x = order d ⟨16, by norm_num⟩ := Fin.ext (by exact_mod_cast h)
          rw [h, place_order]
        · intro h
          have h : place d x = ⟨16, by norm_num⟩ := Fin.ext h
          rw [← h, order_place]
      unfold IntOp.cmpi
      rw [← decide_eq_decide.mpr h1]
      rfl
    simp only [ec, andi_ofBool, xori_one, select_ofBool, and_true]
    exact fin _ _ fun j => by omega

end Cert.KernelIdeal.Hand

end
-- ==== Proof.KReal.lean ====
/-
  The kernel's computation from the sums to the ratio, read at one lane over the extended reals: where the twelve sums are
  real numbers, the result is the closed form of the covariance they give.
-/
module

public import proofs.«01_k».proof.Proof.KBlock
public import proofs.«01_k».proof.Proof.Closed
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Cert.Closed

/-! ## The Newton iterations -/

/-- A step for the largest root, at a lane where root and right side are real. -/
theorem hiStep_at (r c : FVec Ideal S1x512 .f32) (l : Fin 512) (x y : ℝ) (hr : r (ix2 0 l) = (x : EReal))
    (hc : c (ix2 0 l) = (y : EReal)) : hiStep r c (ix2 0 l) = ((Newton.gstep gN (1 / 2) 1 x y : ℝ) : EReal) := by
  pointwise [hiStep, raw, numer, denom, quad]
  rw [hr, hc, k_half, k_four, k_three, k_twelve, k_gN]
  have h1 : (1 : EReal) = ((1 : ℝ) : EReal) := rfl
  have hg : max (12 * y * y - 3) gN ≠ 0 := (lt_of_lt_of_le (by norm_num [gN] : 0 < gN) (le_max_right _ _)).ne'
  simp only [h1, ← EReal.coe_mul, ← EReal.coe_sub, coe_max, coe_min, coe_div _ _ hg]
  rfl

/-- A step for the smallest root, at a lane where root and right side are real. -/
theorem loStep_at (r c : FVec Ideal S1x512 .f32) (l : Fin 512) (x y : ℝ) (hr : r (ix2 0 l) = (x : EReal))
    (hc : c (ix2 0 l) = (y : EReal)) : loStep r c (ix2 0 l) = ((Newton.gstep gN (-1) (-(1 / 2)) x y : ℝ) : EReal) := by
  pointwise [loStep, raw, numer, denom, quad]
  rw [hr, hc, k_mhalf, k_mone, k_four, k_three, k_twelve, k_gN]
  have hg : max (12 * y * y - 3) gN ≠ 0 := (lt_of_lt_of_le (by norm_num [gN] : 0 < gN) (le_max_right _ _)).ne'
  simp only [← EReal.coe_mul, ← EReal.coe_sub, coe_max, coe_min, coe_div _ _ hg]
  rfl

/-- The guarded iteration from `1` gives Newton's iterate. -/
theorem hiIter_at (r : FVec Ideal S1x512 .f32) (l : Fin 512) (x : ℝ) (hr : r (ix2 0 l) = (x : EReal)) (h0 : -1 ≤ x) (h1 : x ≤ 1) :
    ∀ k : Nat, k ≤ 28 → (hiStep r)^[k] hiStart (ix2 0 l) = ((Newton.hi x k : ℝ) : EReal)
  | 0, _ => by
    show hiStart (ix2 0 l) = _
    pointwise [hiStart]
    rfl
  | k + 1, hk => by
    rw [Function.iterate_succ_apply', hiStep_at r _ l x _ hr (hiIter_at r l x hr h0 h1 k (by omega)),
      Newton.gstep_hi gN gN_le x h0 h1 k (by omega)]

/-- The guarded iteration from `−1` gives Newton's iterate. -/
theorem loIter_at (r : FVec Ideal S1x512 .f32) (l : Fin 512) (x : ℝ) (hr : r (ix2 0 l) = (x : EReal)) (h0 : -1 ≤ x) (h1 : x ≤ 1) :
    ∀ k : Nat, k ≤ 28 → (loStep r)^[k] loStart (ix2 0 l) = ((Newton.lo x k : ℝ) : EReal)
  | 0, _ => by
    show loStart (ix2 0 l) = _
    pointwise [loStart]
    show (0 : EReal) - ((1 : ℝ) : EReal) = ((-1 : ℝ) : EReal)
    rw [← EReal.coe_zero, ← EReal.coe_sub]; norm_num
  | k + 1, hk => by
    rw [Function.iterate_succ_apply', loStep_at r _ l x _ hr (loIter_at r l x hr h0 h1 k (by omega)),
      Newton.gstep_lo gN gN_le x h0 h1 k (by omega)]

/-- The ratio at a lane where trace, scale and half determinant are real. -/
theorem ratioOf_at (q p r : FVec Ideal S1x512 .f32) (l : Fin 512) (x y z : ℝ) (hq : q (ix2 0 l) = (x : EReal))
    (hp : p (ix2 0 l) = (y : EReal)) (hr : r (ix2 0 l) = (z : EReal)) (h0 : -1 ≤ z) (h1 : z ≤ 1) :
    ratioOf q p r (ix2 0 l) = ratio x y z := by
  have eh : hiEnd r (ix2 0 l) = ((Newton.hi z 28 : ℝ) : EReal) := hiIter_at r l z hr h0 h1 28 le_rfl
  have el : loEnd r (ix2 0 l) = ((Newton.lo z 28 : ℝ) : EReal) := loIter_at r l z hr h0 h1 28 le_rfl
  pointwise [ratioOf]
  rw [hq, hp, eh, el, k_two]
  simp only [← EReal.coe_zero, ← EReal.coe_mul, ← EReal.coe_sub, ← EReal.coe_add, zero_sub]
  rfl

/-! ## From the sums to trace, scale and half determinant -/

/-- The two named constants. -/
theorem named_third : (Named.named κ "third" (φ := .f32) 0x3EAAAAAB#32 : Ideal .f32) = ((1 / 3 : ℝ) : EReal) := rfl
theorem named_sixth : (Named.named κ "sixth" (φ := .f32) 0x3E2AAAAB#32 : Ideal .f32) = ((1 / 6 : ℝ) : EReal) := rfl

/-- A covariance of the sums `s` of the twelve features: entry `k`, of the coordinates with sums `i` and `j`. -/
def cov (s : Fin 12 → ℝ) (k i j : Fin 12) : ℝ := s k * (1 / 16) - s i * (1 / 16) * (s j * (1 / 16))

/-- At a lane where the twelve sums are real numbers, the whole computation gives the closed form of their covariance. -/
theorem tail_at (M : FVec Ideal S12x512 .f32) (l : Fin 512) (s : Fin 12 → ℝ) (hM : ∀ k, M (ix2 k l) = ((s k : ℝ) : EReal)) :
    ratioOf (qOf M) (pOf M) (rOf M) (ix2 0 l)
      = ratio (q (cov s 3 0 0) (cov s 7 1 1) (cov s 11 2 2))
          (p (cov s 3 0 0) (cov s 7 1 1) (cov s 11 2 2) (cov s 4 0 1) (cov s 5 0 2) (cov s 8 1 2))
          (r (cov s 3 0 0) (cov s 7 1 1) (cov s 11 2 2) (cov s 4 0 1) (cov s 5 0 2) (cov s 8 1 2)) := by
  have m0 : mu0 M (ix2 0 l) = ((s 0 * (1 / 16) : ℝ) : EReal) := by
    pointwise [mu0, mean]; rw [hM 0, k_sixteenth, EReal.coe_mul]
  have m1 : mu1 M (ix2 0 l) = ((s 1 * (1 / 16) : ℝ) : EReal) := by
    pointwise [mu1, mean]; rw [hM 1, k_sixteenth, EReal.coe_mul]
  have m2 : mu2 M (ix2 0 l) = ((s 2 * (1 / 16) : ℝ) : EReal) := by
    pointwise [mu2, mean]; rw [hM 2, k_sixteenth, EReal.coe_mul]
  have ha : c00 M (ix2 0 l) = ((cov s 3 0 0 : ℝ) : EReal) := by
    pointwise [c00, mean]
    rw [m0, hM 3, k_sixteenth, ← EReal.coe_mul, ← EReal.coe_mul, ← EReal.coe_sub]; rfl
  have hb : k0_pay18 M (mu1 M) (ix2 0 l) = ((cov s 7 1 1 : ℝ) : EReal) := by
    pointwise [k0_pay18]
    rw [m1, hM 7, k_sixteenth, ← EReal.coe_mul, ← EReal.coe_mul, ← EReal.coe_sub]; rfl
  have hc : k0_pay20 M (mu2 M) (ix2 0 l) = ((cov s 11 2 2 : ℝ) : EReal) := by
    pointwise [k0_pay20]
    rw [m2, hM 11, k_sixteenth, ← EReal.coe_mul, ← EReal.coe_mul, ← EReal.coe_sub]; rfl
  have hd : k0_pay16 (mu0 M) (mu1 M) (e01 M) (ix2 0 l) = ((cov s 4 0 1 : ℝ) : EReal) := by
    pointwise [k0_pay16, e01, mean]
    rw [m0, m1, hM 4, k_sixteenth, ← EReal.coe_mul, ← EReal.coe_mul, ← EReal.coe_sub]; rfl
  have he : k0_pay17 M (mu0 M) (mu2 M) (ix2 0 l) = ((cov s 5 0 2 : ℝ) : EReal) := by
    pointwise [k0_pay17]
    rw [m0, m2, hM 5, k_sixteenth, ← EReal.coe_mul, ← EReal.coe_mul, ← EReal.coe_sub]; rfl
  have hf : k0_pay19 M (mu1 M) (mu2 M) (ix2 0 l) = ((cov s 8 1 2 : ℝ) : EReal) := by
    pointwise [k0_pay19]
    rw [m1, m2, hM 8, k_sixteenth, ← EReal.coe_mul, ← EReal.coe_mul, ← EReal.coe_sub]; rfl
  generalize cov s 3 0 0 = a at *
  generalize cov s 7 1 1 = b at *
  generalize cov s 11 2 2 = c at *
  generalize cov s 4 0 1 = d at *
  generalize cov s 5 0 2 = e at *
  generalize cov s 8 1 2 = f at *
  have hq : k0_pay21 M (mu1 M) (mu2 M) (c00 M) (ix2 0 l) = ((q a b c : ℝ) : EReal) := by
    have : k0_pay21 M (mu1 M) (mu2 M) (c00 M) (ix2 0 l)
        = (c00 M (ix2 0 l) + k0_pay18 M (mu1 M) (ix2 0 l) + k0_pay20 M (mu2 M) (ix2 0 l))
          * (Named.named κ "third" (φ := .f32) 0x3EAAAAAB#32 : Ideal .f32) := rfl
    rw [this, ha, hb, hc, named_third, ← EReal.coe_add, ← EReal.coe_add, ← EReal.coe_mul]
    unfold q; congr 1; ring
  have h22 : k0_pay22 M (mu1 M) (mu2 M) (c00 M) (ix2 0 l) = ((a - q a b c : ℝ) : EReal) := by
    pointwise [k0_pay22]; rw [ha, hq, ← EReal.coe_sub]
  have h23 : k0_pay23 M (mu1 M) (mu2 M) (c00 M) (ix2 0 l) = ((b - q a b c : ℝ) : EReal) := by
    pointwise [k0_pay23]; rw [hb, hq, ← EReal.coe_sub]
  have h24 : k0_pay24 M (mu1 M) (mu2 M) (c00 M) (ix2 0 l) = ((c - q a b c : ℝ) : EReal) := by
    pointwise [k0_pay24]; rw [hc, hq, ← EReal.coe_sub]
  have hp : k0_pay25 M (mu0 M) (mu1 M) (mu2 M) (c00 M) (e01 M) (ix2 0 l) = ((p a b c d e f : ℝ) : EReal) := by
    pointwise [k0_pay25]
    rw [h22, h23, h24, hd, he, hf, k_two, named_sixth]
    simp only [← EReal.coe_mul, ← EReal.coe_add]
    have hN := nrm_nonneg (a - q a b c) (b - q a b c) (c - q a b c) d e f
    have e1 : ((a - q a b c) * (a - q a b c) + (b - q a b c) * (b - q a b c) + (c - q a b c) * (c - q a b c)
        + 2 * (d * d + e * e + f * f)) * (1 / 6) = nrm (a - q a b c) (b - q a b c) (c - q a b c) d e f / 6 := by
      unfold nrm; ring
    rw [e1, coe_sqrt _ (by linarith)]
    rfl
  have hi : k0_pay26 M (mu0 M) (mu1 M) (mu2 M) (c00 M) (e01 M) (ix2 0 l) = ((inv a b c d e f : ℝ) : EReal) := by
    pointwise [k0_pay26]
    rw [hp, k_gP, coe_max]
    exact coe_div 1 _ (floor_pos _).ne'
  have h27 : k0_pay27 M (mu0 M) (mu1 M) (mu2 M) (c00 M) (e01 M) (ix2 0 l) = (((a - q a b c) * inv a b c d e f : ℝ) : EReal) := by
    pointwise [k0_pay27]; rw [h22, hi, ← EReal.coe_mul]
  have h28 : k0_pay28 M (mu0 M) (mu1 M) (mu2 M) (c00 M) (e01 M) (ix2 0 l) = (((b - q a b c) * inv a b c d e f : ℝ) : EReal) := by
    pointwise [k0_pay28]; rw [h23, hi, ← EReal.coe_mul]
  obtain ⟨hr0, hr1⟩ := r_bound a b c d e f
  have hr : rOf M (ix2 0 l) = ((r a b c d e f : ℝ) : EReal) := by
    pointwise [rOf, k0_pay29]
    rw [h24, hi, h27, h28, hd, he, hf, k_half, k_mone]
    have h1 : (1 : EReal) = ((1 : ℝ) : EReal) := rfl
    simp only [h1, ← EReal.coe_mul, ← EReal.coe_add, ← EReal.coe_sub, coe_max, coe_min]
    have e1 : ∀ z : ℝ, z = r a b c d e f → min 1 (max (-1) z) = r a b c d e f := by
      rintro z rfl; rw [max_eq_right hr0, min_eq_right hr1]
    rw [e1]
    unfold r det; ring
  exact ratioOf_at _ _ _ l _ _ _ hq hp hr hr0 hr1

end Cert.KernelIdeal.Hand

end
-- ==== Proof.Target.lean ====
/-
  The value both programs compute, for real points: the ratio of the closed form at the covariance of the sixteen nearest
  points.
-/
module

public import proofs.«01_k».proof.Proof.Closed
public import proofs.«01_k».proof.Proof.Select

@[expose] public section

set_option maxRecDepth 16384

noncomputable section

namespace Cert.Target

open Idealize.ShloMosaic Cert.Select Cert.Closed

variable (x : Fin 4096 → Fin 3 → ℝ) (n : Fin 4096)

/-- The squared distance of two points of a cloud. -/
def sqdist (p : Fin 4096) : ℝ := (∑ a, x n a * x n a) + (∑ a, x p a * x p a) - 2 * ∑ a, x n a * x p a

/-- The `k`-th nearest point. -/
def near (k : Fin 16) : Fin 3 → ℝ := x (order (sqdist x n) ⟨k.val, by omega⟩)

/-- The mean of the nearest points. -/
def mu (a : Fin 3) : ℝ := (∑ k, near x n k a) / 16

/-- The covariance of the nearest points. -/
def cv (a b : Fin 3) : ℝ := (∑ k, (near x n k a - mu x n a) * (near x n k b - mu x n b)) / 16

/-- The mean of the diagonal. -/
def tq : ℝ := q (cv x n 0 0) (cv x n 1 1) (cv x n 2 2)
/-- The scale of the deviation. -/
def tp : ℝ := p (cv x n 0 0) (cv x n 1 1) (cv x n 2 2) (cv x n 0 1) (cv x n 0 2) (cv x n 1 2)
/-- Half the determinant of the scaled deviation. -/
def tr : ℝ := r (cv x n 0 0) (cv x n 1 1) (cv x n 2 2) (cv x n 0 1) (cv x n 0 2) (cv x n 1 2)

/-- The ratio of the greatest eigenvalue to the middle one. -/
def target : EReal := ratio (tq x n) (tp x n) (tr x n)

/-- At most one of the first seventeen steps of a point's sorted distances is a tie. -/
def Few : Prop := ∀ i j : Fin 17, Tie (sqdist x n) (by norm_num) i → Tie (sqdist x n) (by norm_num) j → i = j

/-- The covariance from the sums of products. -/
theorem cv_eq (a b : Fin 3) :
    (∑ k, near x n k a * near x n k b) * (1 / 16) - (∑ k, near x n k a) * (1 / 16) * ((∑ k, near x n k b) * (1 / 16)) = cv x n a b := by
  unfold cv
  have e : ∀ k, (near x n k a - mu x n a) * (near x n k b - mu x n b)
      = near x n k a * near x n k b - mu x n b * near x n k a - mu x n a * near x n k b + mu x n a * mu x n b := fun k => by ring
  rw [Finset.sum_congr rfl fun k _ => e k, Finset.sum_add_distrib, Finset.sum_sub_distrib, Finset.sum_sub_distrib,
    ← Finset.mul_sum, ← Finset.mul_sum, Finset.sum_const, Finset.card_univ, Fintype.card_fin]
  unfold mu
  rw [nsmul_eq_mul]
  push_cast
  ring

end Cert.Target

end
-- ==== Proof.KValue.lean ====
/-
  The result array of the kernel, for real points with few ties: the closed form at every point.
-/
module

public import proofs.«01_k».proof.Proof.KSelect
public import proofs.«01_k».proof.Proof.KReal
public import proofs.«01_k».proof.Proof.Target
public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe Idealize.SL.Sem
open Cert.Select Cert.Target

variable (m : (ℓ : Loc nD τ sig) → Buf (Elt Ideal) ℓ)

/-- A feature of a real point. -/
def rfeat (x : Fin 3 → ℝ) (k : Fin 12) : ℝ :=
  if h : k.val < 3 then x ⟨k.val, h⟩
  else if h : k.val - 3 < 3 then x 0 * x ⟨k.val - 3, h⟩
  else if h : k.val - 3 - 3 < 3 then x 1 * x ⟨k.val - 3 - 3, h⟩
  else x 2 * x ⟨k.val - 3 - 3 - 3, by omega⟩

theorem feat_coe (X : Fin 3 → EReal) (x : Fin 3 → ℝ) (h : ∀ a, X a = (x a : EReal)) (k : Fin 12) :
    feat X k = ((rfeat x k : ℝ) : EReal) := by
  unfold feat rfeat
  split
  · exact h _
  · split
    · rw [h, h, EReal.coe_mul]
    · split
      · rw [h, h, EReal.coe_mul]
      · rw [h, h, EReal.coe_mul]

theorem dist_coe (X : Fin 4096 → Fin 3 → EReal) (x : Fin 4096 → Fin 3 → ℝ) (h : ∀ p a, X p a = (x p a : EReal)) (n p : Fin 4096) :
    dist X n p = ((sqdist x n p : ℝ) : EReal) := by
  have e : ∀ n p : Fin 4096, ∑ a, X n a * X p a = ((∑ a, x n a * x p a : ℝ) : EReal) := fun n p => by
    rw [← Cert.Closed.coe_sum]
    exact Finset.sum_congr rfl fun a _ => by rw [h, h, EReal.coe_mul]
  unfold dist sqdist
  rw [e, e, e, Cert.Closed.k_two, ← EReal.coe_add, ← EReal.coe_mul, ← EReal.coe_sub]

variable (c : Dev nD) (x : Fin 4 → Fin 4096 → Fin 3 → ℝ) (hx : ∀ b p a, pt m c b p a = (x b p a : EReal))
  (hfew : ∀ b n, Few (x b) n)

include hx hfew in
/-- The sums of the features over the nearest points. -/
theorem momBlock (t : Fin cfg0.N) (b : Fin 4) (hb : b.val = t.val / 8) (n : Fin 4096) (l : Fin 512)
    (hn : n.val = t.val % 8 * 512 + l.val) (k : Fin 12) :
    momOf (distAt m c t) (iblk m c 1 t) (ix2 k l) = ((∑ r : Fin 16, rfeat (near (x b) n r) k : ℝ) : EReal) :=
  mom_at (distAt m c t) l (sqdist (x b) n)
    (fun j => by rw [distAt_at m c t b hb n l hn, dist_coe _ _ (hx b)])
    (hfew b n) (iblk m c 1 t) k (fun j => rfeat (x b j) k)
    (fun j => by rw [blk1_at m c t b hb]; exact feat_coe _ _ (hx b j) k)

include hx hfew in
/-- THE BLOCK of a grid point at lane `l`. -/
theorem block_at (t : Fin cfg0.N) (b : Fin 4) (hb : b.val = t.val / 8) (n : Fin 4096) (l : Fin 512)
    (hn : n.val = t.val % 8 * 512 + l.val) : outsAt0 m c t (ix4 0 0 0 l) = target (x b) n := by
  rw [block]
  have h := tail_at (momOf (distAt m c t) (iblk m c 1 t)) l (fun k => ∑ r : Fin 16, rfeat (near (x b) n r) k)
    (momBlock m c x hx hfew t b hb n l hn)
  generalize ratioOf (F := Ideal) _ _ _ = R at h ⊢
  pointwise []
  rw [h]
  unfold target tq tp tr
  rw [← cv_eq (x b) n 0 0, ← cv_eq (x b) n 1 1, ← cv_eq (x b) n 2 2, ← cv_eq (x b) n 0 1, ← cv_eq (x b) n 0 2, ← cv_eq (x b) n 1 2]
  rfl

/-- The result array. -/
def result (x : Fin 4 → Fin 4096 → Fin 3 → ℝ) : Vec Ideal S4x8x1x512 .f32 := fun i =>
  target (x (i 0)) ⟨(i 1).val * 512 + (i 3).val, by have h1 : (i 1).val < 8 := (i 1).isLt; have h3 : (i 3).val < 512 := (i 3).isLt; omega⟩

include hx hfew in
/-- THE RESULT ARRAY of the run. -/
theorem final : (dats m 0 c).arrAt 4 cfg0.N = result x := by
  refine (dats m 0 c).arrAt_eq_of_covers 4 (result x) (by decide +kernel) fun t _ y => ?_
  have ht : t.val < 32 := N_0 ▸ t.isLt
  blk_simp
  rw [after0_4]
  have y0 : (y 0).val < 1 := (y 0).isLt
  have y1 : (y 1).val < 1 := (y 1).isLt
  have y2 : (y 2).val < 1 := (y 2).isLt
  have y3 : (y 3).val < 512 := (y 3).isLt
  have e0 : (((win0_4.blk t).view.emb y) 0 : Nat) = t.val / 8 := by
    blk_simp [idx t]
  have e1 : (((win0_4.blk t).view.emb y) 1 : Nat) = t.val % 8 := by
    blk_simp [idx t]
  have e3 : (((win0_4.blk t).view.emb y) 3 : Nat) = (y 3).val := by
    blk_simp [idx t]
  have ey : y = (ix4 0 0 0 ⟨(y 3).val, y3⟩ : S1x1x1x512.Idx) := by
    funext a
    match a with
    | 0 => exact Fin.ext (by show (y 0).val = 0; omega)
    | 1 => exact Fin.ext (by show (y 1).val = 0; omega)
    | 2 => exact Fin.ext (by show (y 2).val = 0; omega)
    | 3 => rfl
  generalize (win0_4.blk t).view.emb y = z at e0 e1 e3
  refine (congrArg (outsAt0 m c t) ey).trans ?_
  unfold result
  exact block_at m c x hx hfew t (z 0) e0 _ ⟨(y 3).val, y3⟩ (by show (z 1).val * 512 + (z 3).val = _; rw [e1, e3])

end Cert.KernelIdeal.Hand

end
-- ==== Proof.Sorting.lean ====
/-
  The top-`K` of the negated distances, at a coordinate: the values are the sorted distances, negated, and the indices are
  the places the stable sort of the distances lists.
-/
module

public import proofs.«01_k».proof.Proof.Select
public import Idealize.ShloMosaic.Lib.Pointwise

@[expose] public section

set_option maxRecDepth 16384

noncomputable section

namespace Cert.Sorting

open Cert.Select Idealize.ShloMosaic

/-- The comparator at negated real numbers is the order of the numbers. -/
theorem gt_neg (a b : ℝ) : (FloatOps.cmpfTotal (F := Ideal) (φ := .f32) .gt ((-a : ℝ) : EReal) ((-b : ℝ) : EReal) == 1#1) = decide (a < b) := by
  show (BitVec.ofBool (decide (((-b : ℝ) : EReal) < ((-a : ℝ) : EReal))) == 1#1) = _
  have e : (((-b : ℝ) : EReal) < ((-a : ℝ) : EReal)) ↔ a < b := by rw [EReal.coe_lt_coe_iff]; exact neg_lt_neg_iff
  rw [decide_eq_decide.mpr e]
  by_cases h : a < b
  · rw [decide_eq_true h]; decide
  · rw [decide_eq_false h]; decide

/-- The line of a cube through a point along the last axis. -/
theorem along_last {B N n : Nat} (b : Fin B) (p : Fin N) (q k : Fin n) :
    Shape.Idx.along (s := ⟨3, ![B, N, n]⟩) (ix3 b p q) (2 : Fin 3) k = ix3 b p k := by
  unfold Shape.Idx.along
  funext a
  match a with
  | ⟨0, _⟩ => exact Function.update_of_ne (fun h => absurd (congrArg Fin.val h) (by show (0 : Nat) ≠ 2; decide)) _ _
  | ⟨1, _⟩ => exact Function.update_of_ne (fun h => absurd (congrArg Fin.val h) (by show (1 : Nat) ≠ 2; decide)) _ _
  | ⟨2, _⟩ => exact Function.update_self _ _ _

/-- The sort of two arrays along the last axis, at a coordinate. -/
theorem sort_at {B N n : Nat} {α β : Type} (cmp : α × β → α × β → BitVec 1) (x : (⟨3, ![B, N, n]⟩ : Shape).Idx → α)
    (y : (⟨3, ![B, N, n]⟩ : Shape).Idx → β) (b : Fin B) (p : Fin N) (q : Fin n) :
    (Host.sort2 ⟨3, ![B, N, n]⟩ 2 cmp x y).1 (ix3 b p q)
        = x (ix3 b p (sortedFrom (fun k k' : Fin n => cmp (x (ix3 b p k), y (ix3 b p k)) (x (ix3 b p k'), y (ix3 b p k')) == 1#1) q))
    ∧ (Host.sort2 ⟨3, ![B, N, n]⟩ 2 cmp x y).2 (ix3 b p q)
        = y (ix3 b p (sortedFrom (fun k k' : Fin n => cmp (x (ix3 b p k), y (ix3 b p k)) (x (ix3 b p k'), y (ix3 b p k')) == 1#1) q)) := by
  have e : (sortedFrom (fun k k' : Fin n => cmp (x (Shape.Idx.along (s := ⟨3, ![B, N, n]⟩) (ix3 b p q) (2 : Fin 3) k), y (Shape.Idx.along (s := ⟨3, ![B, N, n]⟩) (ix3 b p q) (2 : Fin 3) k))
        (x (Shape.Idx.along (s := ⟨3, ![B, N, n]⟩) (ix3 b p q) (2 : Fin 3) k'), y (Shape.Idx.along (s := ⟨3, ![B, N, n]⟩) (ix3 b p q) (2 : Fin 3) k')) == 1#1) q)
      = sortedFrom (fun k k' : Fin n => cmp (x (ix3 b p k), y (ix3 b p k)) (x (ix3 b p k'), y (ix3 b p k')) == 1#1) q :=
    congrFun (sortedFrom_congr _ _ fun k k' _ => by rw [along_last, along_last]) q
  unfold Host.sort2
  rw [dif_pos (show 2 < (⟨3, ![B, N, n]⟩ : Shape).rank by show 2 < 3; decide)]
  constructor
  · refine Eq.trans ?_ (congrArg x ((along_last b p q _).trans (congrArg (ix3 b p) e)))
    rfl
  · refine Eq.trans ?_ (congrArg y ((along_last b p q _).trans (congrArg (ix3 b p) e)))
    rfl

/-- The first entries along the last axis, at a coordinate. -/
theorem first_at {B N n K : Nat} {α : Type} (hK : K ≤ n) (x : (⟨3, ![B, N, n]⟩ : Shape).Idx → α)
    (h : (⟨3, ![B, N, n]⟩ : Shape).Slices (fun _ => 0) ⟨3, ![B, N, K]⟩) (b : Fin B) (p : Fin N) (k : Fin K) :
    extractStridedSlice ⟨3, ![B, N, K]⟩ (fun _ => 0) x h (ix3 b p k) = x (ix3 b p ⟨k.val, lt_of_lt_of_le k.isLt hK⟩) := by
  unfold extractStridedSlice
  refine congrArg x (funext fun a => Fin.ext ?_)
  match a with
  | ⟨0, _⟩ => exact Nat.zero_add _
  | ⟨1, _⟩ => exact Nat.zero_add _
  | ⟨2, _⟩ => exact Nat.zero_add _

/-- Every one of the top values is an entry of its row. -/
theorem top_mem {B N n K : Nat} (hK : K ≤ n) (x : FVec Ideal ⟨3, ![B, N, n]⟩ .f32)
    (h : (⟨3, ![B, N, n]⟩ : Shape).Slices (fun _ => 0) ⟨3, ![B, N, K]⟩) (b : Fin B) (p : Fin N) (k : Fin K) :
    ∃ q : Fin n, (Host.topK ⟨3, ![B, N, K]⟩ 2 (FloatOps.cmpfTotal .gt) x h).1 (ix3 b p k) = x (ix3 b p q) := by
  unfold Host.topK
  dsimp only
  exact ⟨_, (first_at hK _ h b p k).trans ((sort_at _ _ _ b p _).1)⟩

/-- THE TOP `K` AT A COORDINATE. -/
theorem top_at {B N n K : Nat} (hK : K ≤ n) (x : FVec Ideal ⟨3, ![B, N, n]⟩ .f32)
    (h : (⟨3, ![B, N, n]⟩ : Shape).Slices (fun _ => 0) ⟨3, ![B, N, K]⟩) (b : Fin B) (p : Fin N) (d : Fin n → ℝ)
    (hd : ∀ q : Fin n, x (ix3 b p q) = ((-(d q) : ℝ) : EReal)) (k : Fin K) :
    (Host.topK ⟨3, ![B, N, K]⟩ 2 (FloatOps.cmpfTotal .gt) x h).1 (ix3 b p k) = ((-(d (order d ⟨k.val, lt_of_lt_of_le k.isLt hK⟩)) : ℝ) : EReal)
    ∧ (Host.topK ⟨3, ![B, N, K]⟩ 2 (FloatOps.cmpfTotal .gt) x h).2 (ix3 b p k) = BitVec.ofNat 32 (order d ⟨k.val, lt_of_lt_of_le k.isLt hK⟩).val := by
  have e : sortedFrom (fun k k' : Fin n => FloatOps.cmpfTotal (F := Ideal) (φ := .f32) .gt (x (ix3 b p k)) (x (ix3 b p k')) == 1#1) = order d := by
    funext q
    unfold order
    refine congrFun (sortedFrom_congr _ _ fun k k' _ => ?_) q
    rw [hd, hd, gt_neg]
  unfold Host.topK
  dsimp only
  constructor
  · refine (first_at hK _ h b p k).trans (((sort_at _ _ _ b p _).1).trans ?_)
    refine (congrArg x (congrArg (ix3 b p) (congrFun e _))).trans (hd _)
  · refine (first_at hK _ h b p k).trans (((sort_at _ _ _ b p _).2).trans ?_)
    rw [dif_pos (show 2 < (⟨3, ![B, N, n]⟩ : Shape).rank by show 2 < 3; decide)]
    refine congrArg (fun q : Fin n => BitVec.ofNat 32 q.val) (congrFun e _)

end Cert.Sorting

end
-- ==== Proof.Elim.lean ====
/-
  Elimination with row exchanges on a real `3 × 3` matrix computes its determinant, whichever rows are exchanged and
  whichever pivots are zero.
-/
module

public import proofs.«01_k».proof.Proof.Closed

@[expose] public section

noncomputable section

namespace Cert.Elim

/-- The row with the greater absolute entry in column `k`. -/
def top (a b : Fin 3 → ℝ) (k : Fin 3) : Fin 3 → ℝ := if |a k| < |b k| then b else a
/-- The other row. -/
def bot (a b : Fin 3 → ℝ) (k : Fin 3) : Fin 3 → ℝ := if |a k| < |b k| then a else b
/-- Whether the two rows are exchanged. -/
def swap (a b : Fin 3 → ℝ) (k : Fin 3) : Bool := decide (|a k| < |b k|)
/-- The sign of an exchange. -/
def sg (s : Bool) : ℝ := if s then -1 else 1
/-- The factor that clears `b` by the pivot `a`; zero at a zero pivot. -/
def fac (a b : ℝ) : ℝ := if a = 0 then 0 else b / a
/-- Row `q` cleared by row `p`. -/
def clear (p q : Fin 3 → ℝ) (j : Fin 3) : ℝ := q j - fac (p 0) (q 0) * p j

/-- The determinant by its rows. -/
def det3 (a b c : Fin 3 → ℝ) : ℝ :=
  a 0 * (b 1 * c 2 - b 2 * c 1) - a 1 * (b 0 * c 2 - b 2 * c 0) + a 2 * (b 0 * c 1 - b 1 * c 0)

theorem sg_not (s : Bool) : sg (!s) = -sg s := by cases s <;> norm_num [sg]

/-- The last column after the second elimination. -/
def last (a b : Fin 3 → ℝ) : ℝ := bot a b 1 2 - fac (top a b 1 1) (bot a b 1 1) * top a b 1 2

theorem two (a b : Fin 3 → ℝ) : sg (swap a b 1) * (top a b 1 1 * last a b) = a 1 * b 2 - a 2 * b 1 := by
  unfold sg swap last top bot fac
  by_cases h : |a 1| < |b 1|
  · have hb : b 1 ≠ 0 := fun h0 => by rw [h0, abs_zero] at h; exact absurd h (not_lt.mpr (abs_nonneg _))
    simp only [h, decide_true, if_true, if_neg hb]
    field_simp
    ring
  · simp only [h, decide_false, Bool.false_eq_true, if_false]
    by_cases ha : a 1 = 0
    · have hb : b 1 = 0 := by
        rw [ha, abs_zero, not_lt] at h
        exact abs_eq_zero.mp (le_antisymm h (abs_nonneg _))
      rw [if_pos ha, ha, hb]; ring
    · rw [if_neg ha]
      field_simp

theorem three (p q s : Fin 3 → ℝ) (hq : |q 0| ≤ |p 0|) (hs : |s 0| ≤ |p 0|) :
    p 0 * (clear p q 1 * clear p s 2 - clear p q 2 * clear p s 1) = det3 p q s := by
  unfold clear fac det3
  by_cases h : p 0 = 0
  · have hz : ∀ y : ℝ, |y| ≤ |p 0| → y = 0 := fun y hy => by
      rw [h, abs_zero] at hy; exact abs_eq_zero.mp (le_antisymm hy (abs_nonneg _))
    rw [hz _ hq, hz _ hs, h]; ring
  · rw [if_neg h, if_neg h]
    field_simp
    ring

/-- ELIMINATION COMPUTES THE DETERMINANT. -/
theorem elim (a b c : Fin 3 → ℝ) :
    sg (xor (xor (swap a b 0) (swap (top a b 0) c 0))
        (swap (clear (top (top a b 0) c 0) (bot a b 0)) (clear (top (top a b 0) c 0) (bot (top a b 0) c 0)) 1))
      * top (top a b 0) c 0 0
      * top (clear (top (top a b 0) c 0) (bot a b 0)) (clear (top (top a b 0) c 0) (bot (top a b 0) c 0)) 1 1
      * last (clear (top (top a b 0) c 0) (bot a b 0)) (clear (top (top a b 0) c 0) (bot (top a b 0) c 0))
      = det3 a b c := by
  have hx : ∀ s t : Bool, sg (xor s t) = sg s * sg t := fun s t => by cases s <;> cases t <;> norm_num [sg]
  have hle : ∀ u v : Fin 3 → ℝ, |u 0| ≤ |top u v 0 0| ∧ |v 0| ≤ |top u v 0 0| ∧ |bot u v 0 0| ≤ |top u v 0 0| := fun u v => by
    unfold top bot
    by_cases h : |u 0| < |v 0|
    · simp only [h, if_true]; exact ⟨h.le, le_rfl, h.le⟩
    · simp only [h, if_false]; exact ⟨le_rfl, not_lt.mp h, not_lt.mp h⟩
  have e2 := two (clear (top (top a b 0) c 0) (bot a b 0)) (clear (top (top a b 0) c 0) (bot (top a b 0) c 0))
  have e3 := three (top (top a b 0) c 0) (bot a b 0) (bot (top a b 0) c 0)
    ((hle a b).2.2.trans (hle (top a b 0) c).1) (hle (top a b 0) c).2.2
  rw [← e2] at e3
  have e4 : sg (swap a b 0) * sg (swap (top a b 0) c 0) * det3 (top (top a b 0) c 0) (bot a b 0) (bot (top a b 0) c 0) = det3 a b c := by
    clear e2 e3
    have h1 : ∀ u v w : Fin 3 → ℝ, sg (swap u v 0) * det3 (top u v 0) w (bot u v 0) = det3 u w v := fun u v w => by
      unfold sg swap top bot det3
      by_cases h : |u 0| < |v 0|
      · simp only [h, decide_true, if_true]; ring
      · simp only [h, decide_false, Bool.false_eq_true, if_false]; ring
    have h2 : ∀ u v w : Fin 3 → ℝ, sg (swap u v 0) * det3 (top u v 0) (bot u v 0) w = det3 u v w := fun u v w => by
      unfold sg swap top bot det3
      by_cases h : |u 0| < |v 0|
      · simp only [h, decide_true, if_true]; ring
      · simp only [h, decide_false, Bool.false_eq_true, if_false]; ring
    rw [mul_assoc, h1, h2]
  rw [hx, hx, ← e4, ← e3]
  ring

end Cert.Elim

end
-- ==== Proof.RDet.lean ====
/-
  The determinant of the reference, window by window: what each part of its elimination leaves, at real entries.
-/
module

public import proofs.«01_k».proof.Proof.Elim
public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Idealize.SL.Sem Idealize.ShloMosaic.StableHlo Cert.Elim

/-! ## Scalars -/

theorem abs_coe (a : ℝ) : FloatOps.absf (F := Ideal) (φ := .f32) (a : EReal) = ((|a| : ℝ) : EReal) := by
  show max (a : EReal) (-(a : EReal)) = _
  rw [← EReal.coe_neg, Cert.Closed.coe_max]; rfl

theorem ite_coe (p : Prop) [Decidable p] (a b : ℝ) : (if p then (a : EReal) else (b : EReal)) = ((if p then a else b : ℝ) : EReal) := by
  split <;> rfl

theorem coe_eq_zero (a : ℝ) : ((a : EReal) = 0) = (a = 0) := propext EReal.coe_eq_zero

/-- The words that stand for the signs. -/
def word (s : Bool) : BitVec 32 := if s then 4294967295#32 else 1#32

theorem word_coe (s : Bool) : FloatOps.sitofp (F := Ideal) .f32 (word s) = ((sg s : ℝ) : EReal) := by
  cases s
  · show (((1#32 : BitVec 32).toInt : ℝ) : EReal) = _
    have : (1#32 : BitVec 32).toInt = 1 := by decide
    rw [this]; norm_num [sg]
  · show (((4294967295#32 : BitVec 32).toInt : ℝ) : EReal) = _
    have : (4294967295#32 : BitVec 32).toInt = -1 := by decide
    rw [this]; norm_num [sg]

theorem zero_coe : FloatOps.sitofp (F := Ideal) .f32 0#32 = ((0 : ℝ) : EReal) := by
  show (((0#32 : BitVec 32).toInt : ℝ) : EReal) = _
  have : (0#32 : BitVec 32).toInt = 0 := by decide
  rw [this]; norm_num
theorem one_coe : FloatOps.sitofp (F := Ideal) .f32 1#32 = ((1 : ℝ) : EReal) := by
  show (((1#32 : BitVec 32).toInt : ℝ) : EReal) = _
  have : (1#32 : BitVec 32).toInt = 1 := by decide
  rw [this]; norm_num

theorem fac_coe (a b : ℝ) : (if a = 0 then ((0 : ℝ) : EReal) else Ideal.div (b : EReal) ((if a = 0 then 1 else a : ℝ) : EReal))
    = ((fac a b : ℝ) : EReal) := by
  unfold fac
  by_cases h : a = 0
  · rw [if_pos h, if_pos h]
  · rw [if_neg h, if_neg h, if_neg h, Cert.Closed.coe_div _ _ h]

theorem word_swap (s : Bool) (u c : Fin 3 → ℝ) (k : Fin 3) : (if |u k| < |c k| then -word s else word s) = word (s ^^ swap u c k) := by
  unfold swap
  by_cases h : |u k| < |c k|
  · rw [if_pos h, decide_eq_true h]; cases s <;> decide
  · rw [if_neg h, decide_eq_false h, Bool.xor_false]

/-! ## The windows -/

abbrev w1 : List (HloOp τ sig (Elt Ideal)) := hostOps0_3.take 28
abbrev w2 : List (HloOp τ sig (Elt Ideal)) := (hostOps0_3.drop 28).take 15
abbrev w3 : List (HloOp τ sig (Elt Ideal)) := (hostOps0_3.drop 43).take 35
abbrev w4 : List (HloOp τ sig (Elt Ideal)) := (hostOps0_3.drop 78).take 8
abbrev w5 : List (HloOp τ sig (Elt Ideal)) := (hostOps0_3.drop 86).take 15
abbrev w6 : List (HloOp τ sig (Elt Ideal)) := (hostOps0_3.drop 101).take 23
abbrev w7 : List (HloOp τ sig (Elt Ideal)) := (hostOps0_3.drop 124).take 14

variable (V : Valuation τ sig (Elt Ideal)) (b : Fin 4) (n : Fin 4096)

/-- The first window: rows 0 and 1 ordered by their first entries. -/
theorem win1 (M : Fin 3 → Fin 3 → ℝ)
    (hM : ∀ i j : Fin 3, (V (Proc.devRef .tc main_v52) : Vec Ideal S4x4096x3x3 .f32) (ix4 b n i j) = ((M i j : ℝ) : EReal)) :
    (∀ j : Fin 3, ((after w1 V) (Proc.devRef .tc main_call1_v12) : Vec Ideal S4x4096x3 .f32) (ix3 b n j) = (((top (M 0) (M 1) 0) j : ℝ) : EReal))
    ∧ (∀ j : Fin 3, ((after w1 V) (Proc.devRef .tc main_call1_v18) : Vec Ideal S4x4096x3 .f32) (ix3 b n j) = (((bot (M 0) (M 1) 0) j : ℝ) : EReal))
    ∧ (∀ j : Fin 3, ((after w1 V) (Proc.devRef .tc main_call1_v20) : Vec Ideal S4x4096x3 .f32) (ix3 b n j) = (((M 2) j : ℝ) : EReal))
    ∧ (((after w1 V) (Proc.devRef .tc main_call1_v21) : Vec Ideal S4x4096 .i32) (ix2 b n) = word ((swap (M 0) (M 1) 0))) := by
  refine ⟨?_, ?_, ?_, ?_⟩
  · intro j
    after_reads_simp
    simp only [TRef.toBuf, TRef.ofBuf, cast_cast, cast_eq]
    pointwise []
    simp only [hM, abs_coe, EReal.coe_lt_coe_iff, ite_coe, top, bot, swap, word, decide_eq_true_eq]
    split <;> rfl
  · intro j
    after_reads_simp
    simp only [TRef.toBuf, TRef.ofBuf, cast_cast, cast_eq]
    pointwise []
    simp only [hM, abs_coe, EReal.coe_lt_coe_iff, ite_coe, top, bot, swap, word, decide_eq_true_eq]
    split <;> rfl
  · intro j
    after_reads_simp
    simp only [TRef.toBuf, TRef.ofBuf, cast_cast, cast_eq]
    pointwise []
    simp only [hM, abs_coe, EReal.coe_lt_coe_iff, ite_coe, top, bot, swap, word, decide_eq_true_eq]
  · after_reads_simp
    simp only [TRef.toBuf, TRef.ofBuf, cast_cast, cast_eq]
    pointwise []
    simp only [hM, abs_coe, EReal.coe_lt_coe_iff, ite_coe, top, bot, swap, word, decide_eq_true_eq]

/-- Window 2: rows 0 and 2 ordered. -/
theorem win2 (u : Fin 3 → ℝ) (q : Fin 3 → ℝ) (c : Fin 3 → ℝ) (s : Bool)
    (h0 : (∀ j : Fin 3, ((V) (Proc.devRef .tc main_call1_v12) : Vec Ideal S4x4096x3 .f32) (ix3 b n j) = ((u j : ℝ) : EReal)))
    (h1 : (∀ j : Fin 3, ((V) (Proc.devRef .tc main_call1_v18) : Vec Ideal S4x4096x3 .f32) (ix3 b n j) = ((q j : ℝ) : EReal)))
    (h2 : (∀ j : Fin 3, ((V) (Proc.devRef .tc main_call1_v20) : Vec Ideal S4x4096x3 .f32) (ix3 b n j) = ((c j : ℝ) : EReal)))
    (h3 : (((V) (Proc.devRef .tc main_call1_v21) : Vec Ideal S4x4096 .i32) (ix2 b n) = word (s))) :
    (∀ j : Fin 3, ((after w2 V) (Proc.devRef .tc main_call1_v30) : Vec Ideal S4x4096x3 .f32) (ix3 b n j) = (((top u c 0) j : ℝ) : EReal))
    ∧ (∀ j : Fin 3, ((after w2 V) (Proc.devRef .tc main_call1_v32) : Vec Ideal S4x4096x3 .f32) (ix3 b n j) = (((bot u c 0) j : ℝ) : EReal))
    ∧ (((after w2 V) (Proc.devRef .tc main_call1_v34) : Vec Ideal S4x4096 .i32) (ix2 b n) = word ((xor s (swap u c 0))))
    ∧ (∀ j : Fin 3, ((after w2 V) (Proc.devRef .tc main_call1_v18) : Vec Ideal S4x4096x3 .f32) (ix3 b n j) = ((q j : ℝ) : EReal)) := by
  refine ⟨?_, ?_, ?_, ?_⟩
  · intro j
    after_reads_simp
    simp only [TRef.toBuf, TRef.ofBuf, cast_cast, cast_eq]
    pointwise []
    simp only [h0, h1, h2, h3, abs_coe, EReal.coe_lt_coe_iff, ite_coe, coe_eq_zero, zero_coe, one_coe, fac_coe, word_coe, EReal.coe_sub, EReal.coe_mul]
    unfold top
    split <;> rfl
  · intro j
    after_reads_simp
    simp only [TRef.toBuf, TRef.ofBuf, cast_cast, cast_eq]
    pointwise []
    simp only [h0, h1, h2, h3, abs_coe, EReal.coe_lt_coe_iff, ite_coe, coe_eq_zero, zero_coe, one_coe, fac_coe, word_coe, EReal.coe_sub, EReal.coe_mul]
    unfold bot
    split <;> rfl
  · after_reads_simp
    simp only [TRef.toBuf, TRef.ofBuf, cast_cast, cast_eq]
    pointwise []
    simp only [h0, h1, h2, h3, abs_coe, EReal.coe_lt_coe_iff, ite_coe, coe_eq_zero, zero_coe, one_coe, fac_coe, word_coe, EReal.coe_sub, EReal.coe_mul]
    exact word_swap s _ _ _
  · intro j
    after_reads_simp
    exact h1 j

/-- Window 3: the two factors. -/
theorem win3 (p : Fin 3 → ℝ) (q : Fin 3 → ℝ) (t : Fin 3 → ℝ) (s : Bool)
    (h0 : (∀ j : Fin 3, ((V) (Proc.devRef .tc main_call1_v30) : Vec Ideal S4x4096x3 .f32) (ix3 b n j) = ((p j : ℝ) : EReal)))
    (h1 : (∀ j : Fin 3, ((V) (Proc.devRef .tc main_call1_v18) : Vec Ideal S4x4096x3 .f32) (ix3 b n j) = ((q j : ℝ) : EReal)))
    (h2 : (∀ j : Fin 3, ((V) (Proc.devRef .tc main_call1_v32) : Vec Ideal S4x4096x3 .f32) (ix3 b n j) = ((t j : ℝ) : EReal)))
    (h3 : (((V) (Proc.devRef .tc main_call1_v34) : Vec Ideal S4x4096 .i32) (ix2 b n) = word (s))) :
    (((after w3 V) (Proc.devRef .tc main_call1_v49) : Vec Ideal S4x4096 .f32) (ix2 b n) = (((fac (p 0) (q 0)) : ℝ) : EReal))
    ∧ (((after w3 V) (Proc.devRef .tc main_call1_v57) : Vec Ideal S4x4096 .f32) (ix2 b n) = (((fac (p 0) (t 0)) : ℝ) : EReal))
    ∧ (∀ j : Fin 3, ((after w3 V) (Proc.devRef .tc main_call1_v30) : Vec Ideal S4x4096x3 .f32) (ix3 b n j) = ((p j : ℝ) : EReal))
    ∧ (∀ j : Fin 3, ((after w3 V) (Proc.devRef .tc main_call1_v18) : Vec Ideal S4x4096x3 .f32) (ix3 b n j) = ((q j : ℝ) : EReal))
    ∧ (∀ j : Fin 3, ((after w3 V) (Proc.devRef .tc main_call1_v32) : Vec Ideal S4x4096x3 .f32) (ix3 b n j) = ((t j : ℝ) : EReal))
    ∧ (((after w3 V) (Proc.devRef .tc main_call1_v34) : Vec Ideal S4x4096 .i32) (ix2 b n) = word (s)) := by
  refine ⟨?_, ?_, ?_, ?_, ?_, ?_⟩
  · after_reads_simp
    simp only [TRef.toBuf, TRef.ofBuf, cast_cast, cast_eq]
    pointwise []
    simp only [h0, h1, h2, h3, abs_coe, EReal.coe_lt_coe_iff, ite_coe, coe_eq_zero, zero_coe, one_coe, fac_coe, word_coe, EReal.coe_sub, EReal.coe_mul]
  · after_reads_simp
    simp only [TRef.toBuf, TRef.ofBuf, cast_cast, cast_eq]
    pointwise []
    simp only [h0, h1, h2, h3, abs_coe, EReal.coe_lt_coe_iff, ite_coe, coe_eq_zero, zero_coe, one_coe, fac_coe, word_coe, EReal.coe_sub, EReal.coe_mul]
  · intro j
    after_reads_simp
    exact h0 j
  · intro j
    after_reads_simp
    exact h1 j
  · intro j
    after_reads_simp
    exact h2 j
  · after_reads_simp
    exact h3

/-- Window 4: the two cleared rows. -/
theorem win4 (f : ℝ) (g : ℝ) (p : Fin 3 → ℝ) (q : Fin 3 → ℝ) (t : Fin 3 → ℝ) (s : Bool)
    (h0 : (((V) (Proc.devRef .tc main_call1_v49) : Vec Ideal S4x4096 .f32) (ix2 b n) = ((f : ℝ) : EReal)))
    (h1 : (((V) (Proc.devRef .tc main_call1_v57) : Vec Ideal S4x4096 .f32) (ix2 b n) = ((g : ℝ) : EReal)))
    (h2 : (∀ j : Fin 3, ((V) (Proc.devRef .tc main_call1_v30) : Vec Ideal S4x4096x3 .f32) (ix3 b n j) = ((p j : ℝ) : EReal)))
    (h3 : (∀ j : Fin 3, ((V) (Proc.devRef .tc main_call1_v18) : Vec Ideal S4x4096x3 .f32) (ix3 b n j) = ((q j : ℝ) : EReal)))
    (h4 : (∀ j : Fin 3, ((V) (Proc.devRef .tc main_call1_v32) : Vec Ideal S4x4096x3 .f32) (ix3 b n j) = ((t j : ℝ) : EReal)))
    (h5 : (((V) (Proc.devRef .tc main_call1_v34) : Vec Ideal S4x4096 .i32) (ix2 b n) = word (s))) :
    (∀ j : Fin 3, ((after w4 V) (Proc.devRef .tc main_call1_v61) : Vec Ideal S4x4096x3 .f32) (ix3 b n j) = (((fun j => q j - f * p j) j : ℝ) : EReal))
    ∧ (∀ j : Fin 3, ((after w4 V) (Proc.devRef .tc main_call1_v65) : Vec Ideal S4x4096x3 .f32) (ix3 b n j) = (((fun j => t j - g * p j) j : ℝ) : EReal))
    ∧ (∀ j : Fin 3, ((after w4 V) (Proc.devRef .tc main_call1_v30) : Vec Ideal S4x4096x3 .f32) (ix3 b n j) = ((p j : ℝ) : EReal))
    ∧ (((after w4 V) (Proc.devRef .tc main_call1_v34) : Vec Ideal S4x4096 .i32) (ix2 b n) = word (s)) := by
  refine ⟨?_, ?_, ?_, ?_⟩
  · intro j
    after_reads_simp
    simp only [TRef.toBuf, TRef.ofBuf, cast_cast, cast_eq]
    pointwise []
    simp only [h0, h1, h2, h3, h4, h5, abs_coe, EReal.coe_lt_coe_iff, ite_coe, coe_eq_zero, zero_coe, one_coe, fac_coe, word_coe, EReal.coe_sub, EReal.coe_mul]
  · intro j
    after_reads_simp
    simp only [TRef.toBuf, TRef.ofBuf, cast_cast, cast_eq]
    pointwise []
    simp only [h0, h1, h2, h3, h4, h5, abs_coe, EReal.coe_lt_coe_iff, ite_coe, coe_eq_zero, zero_coe, one_coe, fac_coe, word_coe, EReal.coe_sub, EReal.coe_mul]
  · intro j
    after_reads_simp
    exact h2 j
  · after_reads_simp
    exact h5

/-- Window 5: the cleared rows ordered by their second entries. -/
theorem win5 (x : Fin 3 → ℝ) (y : Fin 3 → ℝ) (p : Fin 3 → ℝ) (s : Bool)
    (h0 : (∀ j : Fin 3, ((V) (Proc.devRef .tc main_call1_v61) : Vec Ideal S4x4096x3 .f32) (ix3 b n j) = ((x j : ℝ) : EReal)))
    (h1 : (∀ j : Fin 3, ((V) (Proc.devRef .tc main_call1_v65) : Vec Ideal S4x4096x3 .f32) (ix3 b n j) = ((y j : ℝ) : EReal)))
    (h2 : (∀ j : Fin 3, ((V) (Proc.devRef .tc main_call1_v30) : Vec Ideal S4x4096x3 .f32) (ix3 b n j) = ((p j : ℝ) : EReal)))
    (h3 : (((V) (Proc.devRef .tc main_call1_v34) : Vec Ideal S4x4096 .i32) (ix2 b n) = word (s))) :
    (∀ j : Fin 3, ((after w5 V) (Proc.devRef .tc main_call1_v74) : Vec Ideal S4x4096x3 .f32) (ix3 b n j) = (((top x y 1) j : ℝ) : EReal))
    ∧ (∀ j : Fin 3, ((after w5 V) (Proc.devRef .tc main_call1_v76) : Vec Ideal S4x4096x3 .f32) (ix3 b n j) = (((bot x y 1) j : ℝ) : EReal))
    ∧ (((after w5 V) (Proc.devRef .tc main_call1_v78) : Vec Ideal S4x4096 .i32) (ix2 b n) = word ((xor s (swap x y 1))))
    ∧ (∀ j : Fin 3, ((after w5 V) (Proc.devRef .tc main_call1_v30) : Vec Ideal S4x4096x3 .f32) (ix3 b n j) = ((p j : ℝ) : EReal)) := by
  refine ⟨?_, ?_, ?_, ?_⟩
  · intro j
    after_reads_simp
    simp only [TRef.toBuf, TRef.ofBuf, cast_cast, cast_eq]
    pointwise []
    simp only [h0, h1, h2, h3, abs_coe, EReal.coe_lt_coe_iff, ite_coe, coe_eq_zero, zero_coe, one_coe, fac_coe, word_coe, EReal.coe_sub, EReal.coe_mul]
    unfold top
    split <;> rfl
  · intro j
    after_reads_simp
    simp only [TRef.toBuf, TRef.ofBuf, cast_cast, cast_eq]
    pointwise []
    simp only [h0, h1, h2, h3, abs_coe, EReal.coe_lt_coe_iff, ite_coe, coe_eq_zero, zero_coe, one_coe, fac_coe, word_coe, EReal.coe_sub, EReal.coe_mul]
    unfold bot
    split <;> rfl
  · after_reads_simp
    simp only [TRef.toBuf, TRef.ofBuf, cast_cast, cast_eq]
    pointwise []
    simp only [h0, h1, h2, h3, abs_coe, EReal.coe_lt_coe_iff, ite_coe, coe_eq_zero, zero_coe, one_coe, fac_coe, word_coe, EReal.coe_sub, EReal.coe_mul]
    exact word_swap s _ _ _
  · intro j
    after_reads_simp
    exact h2 j

/-- Window 6: the last factor. -/
theorem win6 (x : Fin 3 → ℝ) (y : Fin 3 → ℝ) (p : Fin 3 → ℝ) (s : Bool)
    (h0 : (∀ j : Fin 3, ((V) (Proc.devRef .tc main_call1_v74) : Vec Ideal S4x4096x3 .f32) (ix3 b n j) = ((x j : ℝ) : EReal)))
    (h1 : (∀ j : Fin 3, ((V) (Proc.devRef .tc main_call1_v76) : Vec Ideal S4x4096x3 .f32) (ix3 b n j) = ((y j : ℝ) : EReal)))
    (h2 : (∀ j : Fin 3, ((V) (Proc.devRef .tc main_call1_v30) : Vec Ideal S4x4096x3 .f32) (ix3 b n j) = ((p j : ℝ) : EReal)))
    (h3 : (((V) (Proc.devRef .tc main_call1_v78) : Vec Ideal S4x4096 .i32) (ix2 b n) = word (s))) :
    (((after w6 V) (Proc.devRef .tc main_call1_v93) : Vec Ideal S4x4096 .f32) (ix2 b n) = (((fac (x 1) (y 1)) : ℝ) : EReal))
    ∧ (∀ j : Fin 3, ((after w6 V) (Proc.devRef .tc main_call1_v74) : Vec Ideal S4x4096x3 .f32) (ix3 b n j) = ((x j : ℝ) : EReal))
    ∧ (∀ j : Fin 3, ((after w6 V) (Proc.devRef .tc main_call1_v76) : Vec Ideal S4x4096x3 .f32) (ix3 b n j) = ((y j : ℝ) : EReal))
    ∧ (∀ j : Fin 3, ((after w6 V) (Proc.devRef .tc main_call1_v30) : Vec Ideal S4x4096x3 .f32) (ix3 b n j) = ((p j : ℝ) : EReal))
    ∧ (((after w6 V) (Proc.devRef .tc main_call1_v78) : Vec Ideal S4x4096 .i32) (ix2 b n) = word (s)) := by
  refine ⟨?_, ?_, ?_, ?_, ?_⟩
  · after_reads_simp
    simp only [TRef.toBuf, TRef.ofBuf, cast_cast, cast_eq]
    pointwise []
    simp only [h0, h1, h2, h3, abs_coe, EReal.coe_lt_coe_iff, ite_coe, coe_eq_zero, zero_coe, one_coe, fac_coe, word_coe, EReal.coe_sub, EReal.coe_mul]
  · intro j
    after_reads_simp
    exact h0 j
  · intro j
    after_reads_simp
    exact h1 j
  · intro j
    after_reads_simp
    exact h2 j
  · after_reads_simp
    exact h3

/-- Window 7: the product of the pivots. -/
theorem win7 (f : ℝ) (x : Fin 3 → ℝ) (y : Fin 3 → ℝ) (p : Fin 3 → ℝ) (s : Bool)
    (h0 : (((V) (Proc.devRef .tc main_call1_v93) : Vec Ideal S4x4096 .f32) (ix2 b n) = ((f : ℝ) : EReal)))
    (h1 : (∀ j : Fin 3, ((V) (Proc.devRef .tc main_call1_v74) : Vec Ideal S4x4096x3 .f32) (ix3 b n j) = ((x j : ℝ) : EReal)))
    (h2 : (∀ j : Fin 3, ((V) (Proc.devRef .tc main_call1_v76) : Vec Ideal S4x4096x3 .f32) (ix3 b n j) = ((y j : ℝ) : EReal)))
    (h3 : (∀ j : Fin 3, ((V) (Proc.devRef .tc main_call1_v30) : Vec Ideal S4x4096x3 .f32) (ix3 b n j) = ((p j : ℝ) : EReal)))
    (h4 : (((V) (Proc.devRef .tc main_call1_v78) : Vec Ideal S4x4096 .i32) (ix2 b n) = word (s))) :
    (((after w7 V) (Proc.devRef .tc main_v53) : Vec Ideal S4x4096 .f32) (ix2 b n) = (((sg s * p 0 * x 1 * (y 2 - f * x 2)) : ℝ) : EReal)) := by
  · after_reads_simp
    simp only [TRef.toBuf, TRef.ofBuf, cast_cast, cast_eq]
    pointwise []
    simp only [h0, h1, h2, h3, h4, abs_coe, EReal.coe_lt_coe_iff, ite_coe, coe_eq_zero, zero_coe, one_coe, fac_coe, word_coe, EReal.coe_sub, EReal.coe_mul]

theorem split_det : (hostOps0_3 : List (HloOp τ sig (Elt Ideal))) = w1 ++ (w2 ++ (w3 ++ (w4 ++ (w5 ++ (w6 ++ w7))))) := rfl

/-- THE DETERMINANT: at real entries the reference's elimination leaves the determinant of the matrix. -/
theorem det_at (M : Fin 3 → Fin 3 → ℝ)
    (hM : ∀ i j : Fin 3, (V (Proc.devRef .tc main_v52) : Vec Ideal S4x4096x3x3 .f32) (ix4 b n i j) = ((M i j : ℝ) : EReal)) :
    ((after hostOps0_3 V) (Proc.devRef .tc main_v53) : Vec Ideal S4x4096 .f32) (ix2 b n) = ((det3 (M 0) (M 1) (M 2) : ℝ) : EReal) := by
  rw [split_det]
  simp only [after_append]
  obtain ⟨a1, a2, a3, a4⟩ := win1 V b n M hM
  generalize after w1 V = V1 at *
  obtain ⟨b1, b2, b3, b4⟩ := win2 V1 b n _ _ _ _ a1 a2 a3 a4
  generalize after w2 V1 = V2 at *
  obtain ⟨c1, c2, c3, c4, c5, c6⟩ := win3 V2 b n _ _ _ _ b1 b4 b2 b3
  generalize after w3 V2 = V3 at *
  obtain ⟨d1, d2, d3, d4⟩ := win4 V3 b n _ _ _ _ _ _ c1 c2 c3 c4 c5 c6
  generalize after w4 V3 = V4 at *
  obtain ⟨e1, e2, e3, e4⟩ := win5 V4 b n _ _ _ _ d1 d2 d3 d4
  generalize after w5 V4 = V5 at *
  obtain ⟨f1, f2, f3, f4, f5⟩ := win6 V5 b n _ _ _ _ e1 e2 e4 e3
  generalize after w6 V5 = V6 at *
  rw [win7 V6 b n _ _ _ _ _ f1 f2 f3 f4 f5]
  exact congrArg _ (elim (M 0) (M 1) (M 2))

end Cert.ReferenceIdeal.Hand

end
-- ==== Proof.RSelect.lean ====
/-
  The reference from the points to the covariance: the distances, the sorted places, the nearest points, their covariance.
-/
module

public import proofs.«01_k».proof.Proof.Sorting
public import proofs.«01_k».proof.Proof.Target
public import proofs.«01_k».proof.Proof.RDet

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Idealize.SL.Sem Idealize.ShloMosaic.StableHlo Cert.Select Cert.Target

variable (V : Valuation τ sig (Elt Ideal)) (b : Fin 4) (n : Fin 4096)

abbrev h1 : List (HloOp τ sig (Elt Ideal)) := hostOps0.take 14
abbrev h2 : List (HloOp τ sig (Elt Ideal)) := (hostOps0.drop 14).take 2
abbrev h3 : List (HloOp τ sig (Elt Ideal)) := (hostOps0.drop 16).take 8
abbrev h4 : List (HloOp τ sig (Elt Ideal)) := (hostOps0.drop 24).take 1
abbrev h5 : List (HloOp τ sig (Elt Ideal)) := (hostOps0.drop 25)
theorem split_pre : (hostOps0 : List (HloOp τ sig (Elt Ideal))) = h1 ++ (h2 ++ (h3 ++ (h4 ++ h5))) := rfl

/-- The negated distances. -/
theorem dist_at (x : Fin 4096 → Fin 3 → ℝ) (hx : ∀ p a, (V (Proc.devRef .tc main_arg0) : Vec Ideal S4x4096x3 .f32) (ix3 b p a) = ((x p a : ℝ) : EReal)) (p : Fin 4096) :
    ((after h1 V) (Proc.devRef .tc main_v11) : Vec Ideal S4x4096x4096 .f32) (ix3 b n p) = ((-(sqdist x n p) : ℝ) : EReal) := by
  after_reads_simp
  pointwise []
  simp only [hx, Cert.Closed.k_two, ← EReal.coe_mul, Cert.Closed.coe_sum, ← EReal.coe_add, ← EReal.coe_sub, ← EReal.coe_neg]
  rfl

/-- The sorted places. -/
theorem places_at (d : Fin 4096 → ℝ) (hd : ∀ p, (V (Proc.devRef .tc main_v11) : Vec Ideal S4x4096x4096 .f32) (ix3 b n p) = ((-(d p) : ℝ) : EReal)) (k : Fin 16) :
    ((after h2 V) (Proc.devRef .tc main_indices) : Vec Ideal S4x4096x16 .i32) (ix3 b n k) = BitVec.ofNat 32 (order d ⟨k.val, by omega⟩).val := by
  after_reads_simp
  exact (Cert.Sorting.top_at (by norm_num) _ sliceFits_S4x4096x4096_S4x4096x16 b n d hd k).2

theorem keep_word (z : BitVec 32) (h : z.toNat < 4096) : Scalar.select (IntOp.cmpi .slt z 0#32) (IntOp.addi z 4096#32) z = z := by
  have : IntOp.cmpi .slt z 0#32 = 0#1 := by
    show BitVec.ofBool (z.slt 0#32) = _
    have e : z.slt 0#32 = false := by
      rw [BitVec.slt, decide_eq_false_iff_not, BitVec.toInt_eq_toNat_cond, if_pos (by omega)]
      simp
    rw [e]; rfl
  rw [this]; rfl

/-- The places, read as start indices. -/
theorem starts_at (k : Fin 16) (z : BitVec 32) (h : z.toNat < 4096) (hz : (V (Proc.devRef .tc main_indices) : Vec Ideal S4x4096x16 .i32) (ix3 b n k) = z) :
    ((after h3 V) (Proc.devRef .tc main_v17) : Vec Ideal S4x4096x16x1 .i32) (ix4 b n k 0) = z := by
  after_reads_simp
  pointwise []
  rw [hz]
  exact keep_word z h

/-- The gather's operand index. -/
theorem operand_at (idx : IVec S4x4096x16x1 32) (k : Fin 16) (a : Fin 3) (q : Fin 4096) (hq : idx (ix4 b n k 0) = BitVec.ofNat 32 q.val) :
    gather_S4x4096x3_S4x4096x16x1_S4x4096x16x3_3_1_0_0_1_3_113.operandIdx (ix4 b n k a) idx = ix3 b q a := by
  have hq' : min (idx (ix4 b n k 0)).toInt.toNat 4095 = q.val := by
    have hl := q.isLt
    rw [hq, BitVec.toInt_eq_toNat_cond, BitVec.toNat_ofNat, Nat.mod_eq_of_lt (by omega), if_pos (by omega), Int.toNat_natCast]
    omega
  funext e
  refine Fin.ext ?_
  have h012 : e = 0 ∨ e = 1 ∨ e = 2 := by
    match e with
    | ⟨0, _⟩ => exact Or.inl rfl
    | ⟨1, _⟩ => exact Or.inr (Or.inl rfl)
    | ⟨2, _⟩ => exact Or.inr (Or.inr rfl)
  show gather_S4x4096x3_S4x4096x16x1_S4x4096x16x3_3_1_0_0_1_3_113.start (ix4 b n k a) idx e + gather_S4x4096x3_S4x4096x16x1_S4x4096x16x3_3_1_0_0_1_3_113.batchCoord (ix4 b n k a) e + gather_S4x4096x3_S4x4096x16x1_S4x4096x16x3_3_1_0_0_1_3_113.offCoord (ix4 b n k a) e = _
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S4x4096x3_S4x4096x16x1_S4x4096x16x3_3_1_0_0_1_3_113.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4x4096x3_S4x4096x16x1_S4x4096x16x3_3_1_0_0_1_3_113.startIndexMap from List.mem_singleton.mpr rfl)]
    refine Eq.trans ?_ hq'
    have hsi : gather_S4x4096x3_S4x4096x16x1_S4x4096x16x3_3_1_0_0_1_3_113.siIdx (ix4 b n k a) ⟨List.idxOf (1 : Fin 3) gather_S4x4096x3_S4x4096x16x1_S4x4096x16x3_3_1_0_0_1_3_113.startIndexMap,
        List.idxOf_lt_length_iff.2 (List.mem_singleton.mpr rfl)⟩ = ix4 b n k 0 := by
      funext f; refine Fin.ext ?_
      match f with
      | ⟨0, _⟩ => rfl
      | ⟨1, _⟩ => rfl
      | ⟨2, _⟩ => rfl
      | ⟨3, _⟩ => rfl
    rw [hsi]
    rfl
  · have hs : gather_S4x4096x3_S4x4096x16x1_S4x4096x16x3_3_1_0_0_1_3_113.start (ix4 b n k a) idx 2 = 0 := by
      unfold GatherDims.start
      rw [dif_neg (show ¬ (2 : Fin 3) ∈ gather_S4x4096x3_S4x4096x16x1_S4x4096x16x3_3_1_0_0_1_3_113.startIndexMap from fun h => absurd (List.mem_singleton.mp h) (by decide))]
    rw [hs, GatherDims.batchCoord_eq_zero _ _ _ (fun h => absurd (List.mem_singleton.mp h) (by decide))]
    simp only [Nat.zero_add]
    rfl

/-- The gathered points. -/
theorem rows_at (x : Fin 4096 → Fin 3 → ℝ) (hx : ∀ p a, (V (Proc.devRef .tc main_arg0) : Vec Ideal S4x4096x3 .f32) (ix3 b p a) = ((x p a : ℝ) : EReal))
    (k : Fin 16) (a : Fin 3) (q : Fin 4096) (hq : (V (Proc.devRef .tc main_v17) : Vec Ideal S4x4096x16x1 .i32) (ix4 b n k 0) = BitVec.ofNat 32 q.val) :
    ((after h4 V) (Proc.devRef .tc main_v18) : Vec Ideal S4x4096x16x3 .f32) (ix4 b n k a) = ((x q a : ℝ) : EReal) := by
  after_reads_simp
  unfold Host.gather
  rw [operand_at b n _ k a q hq]
  exact hx q a

/-- The covariance of the gathered points. -/
theorem cov_at (y : Fin 16 → Fin 3 → ℝ) (hy : ∀ k a, (V (Proc.devRef .tc main_v18) : Vec Ideal S4x4096x16x3 .f32) (ix4 b n k a) = ((y k a : ℝ) : EReal)) (a c : Fin 3) :
    ((after h5 V) (Proc.devRef .tc main_v27) : Vec Ideal S4x4096x3x3 .f32) (ix4 b n a c)
      = (((∑ k, (y k a - (∑ k, y k a) / 16) * (y k c - (∑ k, y k c) / 16)) / 16 : ℝ) : EReal) := by
  after_reads_simp
  pointwise []
  simp only [hy, Cert.Closed.k_sixteen, Cert.Closed.coe_sum, Cert.Closed.coe_div _ _ (show (16 : ℝ) ≠ 0 by norm_num), ← EReal.coe_sub, ← EReal.coe_mul]

/-- THE COVARIANCE: the first stretch of the reference leaves the covariance of the sixteen nearest points. -/
theorem pre_at (x : Fin 4096 → Fin 3 → ℝ) (hx : ∀ p a, (V (Proc.devRef .tc main_arg0) : Vec Ideal S4x4096x3 .f32) (ix3 b p a) = ((x p a : ℝ) : EReal)) (a c : Fin 3) :
    ((after hostOps0 V) (Proc.devRef .tc main_v27) : Vec Ideal S4x4096x3x3 .f32) (ix4 b n a c) = ((cv x n a c : ℝ) : EReal) := by
  have kept : ∀ (ops : List (HloOp τ sig (Elt Ideal))) (U : Valuation τ sig (Elt Ideal)),
      ops.Forall (fun op => op.writes ⊆ (hostOps0_W.map (Proc.devRef (τ := τ) .tc)).toFinset) →
      after ops U (Proc.devRef .tc main_arg0) = U (Proc.devRef .tc main_arg0) := fun ops U h =>
    after_of_writes_sub ops U h (by decide +kernel)
  have all := List.forall_iff_forall_mem.mp (hostOps0_writes (F := Ideal))
  have sub : ∀ i j, ((hostOps0 (F := Ideal).drop i).take j).Forall (fun op => op.writes ⊆ (hostOps0_W.map (Proc.devRef (τ := τ) .tc)).toFinset) := fun i j =>
    List.forall_iff_forall_mem.mpr fun op h => all op (List.mem_of_mem_drop (List.mem_of_mem_take h))
  have x1 : ∀ p a, ((after h1 V) (Proc.devRef .tc main_arg0) : Vec Ideal S4x4096x3 .f32) (ix3 b p a) = ((x p a : ℝ) : EReal) := by
    rw [kept h1 V (sub 0 14)]; exact hx
  have d1 := dist_at V b n x hx
  rw [split_pre]
  simp only [after_append]
  generalize after h1 V = V1 at *
  have x2 : ∀ p a, ((after h2 V1) (Proc.devRef .tc main_arg0) : Vec Ideal S4x4096x3 .f32) (ix3 b p a) = ((x p a : ℝ) : EReal) := by
    rw [kept h2 V1 (sub 14 2)]; exact x1
  have d2 := places_at V1 b n _ d1
  generalize after h2 V1 = V2 at *
  have x3 : ∀ p a, ((after h3 V2) (Proc.devRef .tc main_arg0) : Vec Ideal S4x4096x3 .f32) (ix3 b p a) = ((x p a : ℝ) : EReal) := by
    rw [kept h3 V2 (sub 16 8)]; exact x2
  have d3 := fun k => starts_at V2 b n k _ (by
    have hl := (order (sqdist x n) ⟨k.val, by omega⟩).isLt
    rw [BitVec.toNat_ofNat, Nat.mod_eq_of_lt (by omega)]; exact hl) (d2 k)
  generalize after h3 V2 = V3 at *
  have d4 := fun k a => rows_at V3 b n x x3 k a _ (d3 k)
  generalize after h4 V3 = V4 at *
  rw [cov_at V4 b n _ d4 a c]
  rfl

end Cert.ReferenceIdeal.Hand

end
-- ==== Proof.RSpectral.lean ====
/-
  The reference from the covariance to the ratio: the deviator, the half determinant, the Newton steps, the ratio.
-/
module

public import proofs.«01_k».proof.Proof.RDet
public import proofs.«01_k».proof.Proof.Newton

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Idealize.SL.Sem Idealize.ShloMosaic.StableHlo Cert.Elim

variable (V : Valuation τ sig (Elt Ideal)) (b : Fin 4) (n : Fin 4096)

theorem eye_word (i j : Fin 3) : IntOp.cmpi .eq (IntOp.addi (BitVec.ofNat 32 i.val) 0#32) (BitVec.ofNat 32 j.val) = BitVec.ofBool (decide (i = j)) := by
  decide +revert

/-- The entries of the identity. -/
def eye (i j : Fin 3) : ℝ := if i = j then 1 else 0

theorem eye_coe (i j : Fin 3) : FloatOps.uitofp (F := Ideal) .f32 (BitVec.ofBool (decide (i = j))) = ((eye i j : ℝ) : EReal) := by
  unfold eye
  by_cases h : i = j
  · rw [if_pos h, decide_eq_true h]
    show (((BitVec.ofBool true).toNat : ℝ) : EReal) = _
    have : (BitVec.ofBool true).toNat = 1 := by decide
    rw [this]; norm_num
  · rw [if_neg h, decide_eq_false h]
    show (((BitVec.ofBool false).toNat : ℝ) : EReal) = _
    have : (BitVec.ofBool false).toNat = 0 := by decide
    rw [this]; norm_num

/-- The sum of the diagonal. -/
theorem trace_at (C : Fin 3 → Fin 3 → ℝ)
    (hC : ∀ i j : Fin 3, (V (Proc.devRef .tc main_v27) : Vec Ideal S4x4096x3x3 .f32) (ix4 b n i j) = ((C i j : ℝ) : EReal)) :
    ((after hostOps0_1 V) (Proc.devRef .tc main_v28) : Vec Ideal S4x4096 .f32) (ix2 b n) = ((C 0 0 + C 1 1 + C 2 2 : ℝ) : EReal) := by
  after_reads_simp
  simp only [TRef.toBuf, TRef.ofBuf, cast_cast, cast_eq]
  pointwise []
  have e : ∀ i j : Fin 3, Scalar.select (BitVec.ofBool (decide (i = j))) ((C i j : ℝ) : EReal) 0 = ((if i = j then C i j else 0 : ℝ) : EReal) := fun i j => by
    by_cases h : i = j
    · rw [if_pos h, decide_eq_true h]; rfl
    · rw [if_neg h, decide_eq_false h]; rfl
  simp only [hC, eye_word, e, Cert.Closed.coe_sum]
  rw [Fin.sum_univ_three]
  simp

/-- The deviator's entries. -/
def dv (C : Fin 3 → Fin 3 → ℝ) (T : ℝ) (i j : Fin 3) : ℝ := C i j - T / 3 * eye i j
/-- The scale. -/
def sc (C : Fin 3 → Fin 3 → ℝ) (T : ℝ) : ℝ := Real.sqrt ((∑ i, ∑ j, dv C T i j * dv C T i j) / 6)

theorem sc_nonneg (C : Fin 3 → Fin 3 → ℝ) (T : ℝ) : 0 ≤ (∑ i, ∑ j, dv C T i j * dv C T i j) / 6 :=
  div_nonneg (Finset.sum_nonneg fun i _ => Finset.sum_nonneg fun j _ => mul_self_nonneg _) (by norm_num)

/-- The deviator, its scale and the scaled deviator. -/
theorem dev_at (C : Fin 3 → Fin 3 → ℝ) (T : ℝ)
    (hC : ∀ i j : Fin 3, (V (Proc.devRef .tc main_v27) : Vec Ideal S4x4096x3x3 .f32) (ix4 b n i j) = ((C i j : ℝ) : EReal))
    (hT : (V (Proc.devRef .tc main_v28) : Vec Ideal S4x4096 .f32) (ix2 b n) = ((T : ℝ) : EReal)) :
    ((after hostOps0_2 V) (Proc.devRef .tc main_v30) : Vec Ideal S4x4096 .f32) (ix2 b n) = ((T / 3 : ℝ) : EReal)
    ∧ ((after hostOps0_2 V) (Proc.devRef .tc main_v47) : Vec Ideal S4x4096 .f32) (ix2 b n) = ((sc C T : ℝ) : EReal)
    ∧ ∀ i j : Fin 3, ((after hostOps0_2 V) (Proc.devRef .tc main_v52) : Vec Ideal S4x4096x3x3 .f32) (ix4 b n i j)
        = ((dv C T i j / max (sc C T) Cert.Closed.gP : ℝ) : EReal) := by
  have h3 : (3 : ℝ) ≠ 0 := by norm_num
  have h6 : (6 : ℝ) ≠ 0 := by norm_num
  have ed : ∀ i j : Fin 3, ((C i j : ℝ) : EReal) - ((T / 3 : ℝ) : EReal) * ((eye i j : ℝ) : EReal) = ((dv C T i j : ℝ) : EReal) := fun i j => by
    unfold dv; rw [EReal.coe_sub, EReal.coe_mul]
  refine ⟨?_, ?_, ?_⟩
  · after_reads_simp
    pointwise []
    simp only [hT, Cert.Closed.k_three, Cert.Closed.coe_div _ _ h3]
  · after_reads_simp
    pointwise []
    simp only [hC, hT, Cert.Closed.k_three, Cert.Closed.k_six, Cert.Closed.coe_div _ _ h3, eye_word, eye_coe, ed]
    simp only [← EReal.coe_mul,
      Cert.Closed.coe_sum, Cert.Closed.coe_div _ _ h6, Cert.Closed.coe_sqrt _ (sc_nonneg C T)]
    rfl
  · intro i j
    after_reads_simp
    pointwise []
    simp only [hC, hT, Cert.Closed.k_three, Cert.Closed.k_six, Cert.Closed.coe_div _ _ h3, eye_word, eye_coe, ed]
    simp only [← EReal.coe_mul,
      Cert.Closed.coe_sum, Cert.Closed.coe_div _ _ h6, Cert.Closed.coe_sqrt _ (sc_nonneg C T), Cert.Closed.k_gP, Cert.Closed.coe_max]
    exact Cert.Closed.coe_div _ _ (ne_of_gt (Cert.Closed.floor_pos _))

theorem upper_at : (upto hostOps0_4 V 10 (Proc.devRef .tc main_v59) : Vec Ideal S1x4x4096 .f32) (ix3 (0 : Fin 1) b n) = ((1 : ℝ) : EReal) := by
  show (after (hostOps0_4.take 10) V (Proc.devRef .tc main_v59) : Vec Ideal S1x4x4096 .f32) (ix3 (0 : Fin 1) b n) = _
  after_reads_simp
  pointwise []
  exact EReal.coe_one.symm

theorem lower_at : (upto hostOps0_4 V 10 (Proc.devRef .tc main_v60) : Vec Ideal S1x4x4096 .f32) (ix3 (0 : Fin 1) b n) = ((-1 : ℝ) : EReal) := by
  show (after (hostOps0_4.take 10) V (Proc.devRef .tc main_v60) : Vec Ideal S1x4x4096 .f32) (ix3 (0 : Fin 1) b n) = _
  after_reads_simp
  pointwise []
  rw [EReal.coe_neg, EReal.coe_one]

theorem pair_left (x y : Vec Ideal S1x4x4096 .f32) : (concatenate (α := Elt Ideal .f32) S2x4x4096 0 [⟨S1x4x4096, x⟩, ⟨S1x4x4096, y⟩]
    concatenates_S1x4x4096_S1x4x4096_S2x4x4096_d0) (ix3 (0 : Fin 2) b n) = x (ix3 (0 : Fin 1) b n) := by
  pointwise []
theorem pair_right (x y : Vec Ideal S1x4x4096 .f32) : (concatenate (α := Elt Ideal .f32) S2x4x4096 0 [⟨S1x4x4096, x⟩, ⟨S1x4x4096, y⟩]
    concatenates_S1x4x4096_S1x4x4096_S2x4x4096_d0) (ix3 (1 : Fin 2) b n) = y (ix3 (0 : Fin 1) b n) := by
  pointwise []

/-- Half the determinant, and the Newton steps' starts. -/
theorem start_at (d : ℝ) (hd : (V (Proc.devRef .tc main_v53) : Vec Ideal S4x4096 .f32) (ix2 b n) = ((d : ℝ) : EReal)) :
    ((after hostOps0_4 V) (Proc.devRef .tc main_v62_0) : Vec Ideal S4x4096 .f32) (ix2 b n) = ((d / 2 : ℝ) : EReal)
    ∧ ((after hostOps0_4 V) (Proc.devRef .tc main_v62_3) : Vec Ideal S2x4x4096 .f32) (ix3 0 b n) = ((1 : ℝ) : EReal)
    ∧ ((after hostOps0_4 V) (Proc.devRef .tc main_v62_3) : Vec Ideal S2x4x4096 .f32) (ix3 1 b n) = ((-1 : ℝ) : EReal) := by
  refine ⟨?_, ?_, ?_⟩
  · after_reads_simp
    simp only [id_eq]
    pointwise []
    rw [hd, Cert.Closed.k_two, Cert.Closed.coe_div _ _ (by norm_num)]
  · after_reads_simp
    simp only [id_eq]
    rw [pair_left, upper_at]
  · after_reads_simp
    simp only [id_eq]
    rw [pair_right, lower_at]

/-- One Newton step. -/
theorem step_at (r c : ℝ) (e : Fin 2) (hr : (V (Proc.devRef .tc main_v62_0) : Vec Ideal S4x4096 .f32) (ix2 b n) = ((r : ℝ) : EReal))
    (hc : (V (Proc.devRef .tc main_v62_3) : Vec Ideal S2x4x4096 .f32) (ix3 e b n) = ((c : ℝ) : EReal)) (hne : 12 * c * c - 3 ≠ 0) :
    ((after while0Ops0 V) (Proc.devRef .tc main_v62_3) : Vec Ideal S2x4x4096 .f32) (ix3 e b n) = ((Cert.Newton.step r c : ℝ) : EReal) := by
  after_reads_simp
  simp only [id_eq]
  pointwise []
  simp only [hr, hc, Cert.Closed.k_three, Cert.Closed.k_four, Cert.Closed.k_twelve, ← EReal.coe_mul, ← EReal.coe_sub, Cert.Closed.coe_div _ _ hne]
  rfl

/-- What holds before each Newton step: the half determinant, the two iterates, the mean and the scale. -/
structure Inv (q p r : ℝ) (k : ℕ) (V : Valuation τ sig (Elt Ideal)) : Prop where
  half : (V (Proc.devRef .tc main_v62_0) : Vec Ideal S4x4096 .f32) (ix2 b n) = ((r : ℝ) : EReal)
  upper : (V (Proc.devRef .tc main_v62_3) : Vec Ideal S2x4x4096 .f32) (ix3 0 b n) = ((Cert.Newton.hi r k : ℝ) : EReal)
  lower : (V (Proc.devRef .tc main_v62_3) : Vec Ideal S2x4x4096 .f32) (ix3 1 b n) = ((Cert.Newton.lo r k : ℝ) : EReal)
  mean : (V (Proc.devRef .tc main_v30) : Vec Ideal S4x4096 .f32) (ix2 b n) = ((q : ℝ) : EReal)
  scale : (V (Proc.devRef .tc main_v47) : Vec Ideal S4x4096 .f32) (ix2 b n) = ((p : ℝ) : EReal)

theorem Inv.cond {b : Fin 4} {n : Fin 4096} {q p r : ℝ} {k : ℕ} {V : Valuation τ sig (Elt Ideal)} (h : Inv b n q p r k V) : Inv b n q p r k (after condOps V) where
  half := by rw [after_of_writes_sub condOps V condOps_writes (by decide +kernel)]; exact h.half
  upper := by rw [after_of_writes_sub condOps V condOps_writes (by decide +kernel)]; exact h.upper
  lower := by rw [after_of_writes_sub condOps V condOps_writes (by decide +kernel)]; exact h.lower
  mean := by rw [after_of_writes_sub condOps V condOps_writes (by decide +kernel)]; exact h.mean
  scale := by rw [after_of_writes_sub condOps V condOps_writes (by decide +kernel)]; exact h.scale

theorem Inv.body {b : Fin 4} {n : Fin 4096} {q p r : ℝ} {k : ℕ} {V : Valuation τ sig (Elt Ideal)} (h : Inv b n q p r k V) (h1 : -1 ≤ r) (h2 : r ≤ 1) :
    Inv b n q p r (k + 1) (after while0Ops0 V) where
  half := by rw [after_of_writes_sub while0Ops0 V while0Ops0_writes (by decide +kernel)]; exact h.half
  upper := by rw [Cert.Newton.hi_succ]; exact step_at V b n r _ 0 h.half h.upper (ne_of_gt (Cert.Newton.hi_deriv r h1 h2 k))
  lower := by rw [Cert.Newton.lo_succ]; exact step_at V b n r _ 1 h.half h.lower (ne_of_gt (Cert.Newton.lo_deriv r h1 h2 k))
  mean := by rw [after_of_writes_sub while0Ops0 V while0Ops0_writes (by decide +kernel)]; exact h.mean
  scale := by rw [after_of_writes_sub while0Ops0 V while0Ops0_writes (by decide +kernel)]; exact h.scale

/-- The ratio of the two eigenvalues. -/
theorem ratio_at (q p r : ℝ) (t : Fin 8) (l : Fin 512) (h : Inv b ⟨t.val * 512 + l.val, by omega⟩ q p r 28 V) :
    ((after hostOps0_5 V) (Proc.devRef .tc main_v78) : Vec Ideal S4x8x1x512 .f32) (ix4 b t (0 : Fin 1) l) = Cert.Closed.ratio q p r := by
  after_reads_simp
  pointwise []
  simp only [h.upper, h.lower, h.mean, h.scale, Cert.Closed.k_two, ← EReal.coe_mul, ← EReal.coe_add, ← EReal.coe_neg]
  rfl

/-- The stretches from the covariance to the loop. -/
theorem enter (C : Fin 3 → Fin 3 → ℝ) (hs : ∀ i j, C i j = C j i)
    (hC : ∀ i j : Fin 3, (V (Proc.devRef .tc main_v27) : Vec Ideal S4x4096x3x3 .f32) (ix4 b n i j) = ((C i j : ℝ) : EReal)) :
    Inv b n (Cert.Closed.q (C 0 0) (C 1 1) (C 2 2)) (Cert.Closed.p (C 0 0) (C 1 1) (C 2 2) (C 0 1) (C 0 2) (C 1 2))
      (Cert.Closed.r (C 0 0) (C 1 1) (C 2 2) (C 0 1) (C 0 2) (C 1 2)) 0
      (after hostOps0_4 (after hostOps0_3 (after hostOps0_2 (after hostOps0_1 V)))) := by
  have hT := trace_at V b n C hC
  have hC1 : ∀ i j : Fin 3, ((after hostOps0_1 V) (Proc.devRef .tc main_v27) : Vec Ideal S4x4096x3x3 .f32) (ix4 b n i j) = ((C i j : ℝ) : EReal) := by
    rw [after_of_writes_sub hostOps0_1 V hostOps0_1_writes (by decide +kernel)]; exact hC
  generalize after hostOps0_1 V = V1 at *
  obtain ⟨d1, d2, d3⟩ := dev_at V1 b n C _ hC1 hT
  generalize after hostOps0_2 V1 = V2 at *
  have hd := det_at V2 b n _ d3
  have k30 : ((after hostOps0_3 V2) (Proc.devRef .tc main_v30) : Vec Ideal S4x4096 .f32) (ix2 b n) = (((C 0 0 + C 1 1 + C 2 2) / 3 : ℝ) : EReal) := by
    rw [after_of_writes_sub hostOps0_3 V2 hostOps0_3_writes (by decide +kernel)]; exact d1
  have k47 : ((after hostOps0_3 V2) (Proc.devRef .tc main_v47) : Vec Ideal S4x4096 .f32) (ix2 b n) = ((sc C (C 0 0 + C 1 1 + C 2 2) : ℝ) : EReal) := by
    rw [after_of_writes_sub hostOps0_3 V2 hostOps0_3_writes (by decide +kernel)]; exact d2
  generalize after hostOps0_3 V2 = V3 at *
  obtain ⟨e1, e2, e3⟩ := start_at V3 b n _ hd
  have eq : (C 0 0 + C 1 1 + C 2 2) / 3 = Cert.Closed.q (C 0 0) (C 1 1) (C 2 2) := rfl
  have ep : sc C (C 0 0 + C 1 1 + C 2 2) = Cert.Closed.p (C 0 0) (C 1 1) (C 2 2) (C 0 1) (C 0 2) (C 1 2) := by
    unfold sc Cert.Closed.p Cert.Closed.nrm dv
    rw [eq]
    simp only [Fin.sum_univ_three, eye, hs 1 0, hs 2 0, hs 2 1]
    congr 1
    simp
    ring
  refine ⟨?_, e2, e3, ?_, ?_⟩
  · rw [e1]
    refine congrArg _ ?_
    rw [ep]
    unfold Cert.Closed.r Cert.Closed.det Cert.Closed.inv det3 dv
    rw [eq]
    simp only [eye, hs 1 0, hs 2 0, hs 2 1]
    simp
    ring
  · rw [after_of_writes_sub hostOps0_4 V3 hostOps0_4_writes (by decide +kernel), k30, eq]
  · rw [after_of_writes_sub hostOps0_4 V3 hostOps0_4_writes (by decide +kernel), k47, ep]

/-- The loop: 28 Newton steps. -/
theorem loop_at (q p r : ℝ) (h1 : -1 ≤ r) (h2 : r ≤ 1) (W : Dev nD → Valuation τ sig (Elt Ideal)) (c : Dev nD) (h : Inv b n q p r 0 (W c)) (k : ℕ) :
    Inv b n q p r k (atTrip condOps bodyI W k c) := by
  induction k with
  | zero => exact h
  | succ k ih =>
    show Inv b n q p r (k + 1) (afterL bodyI (after condOps (atTrip condOps bodyI W k c)))
    simp only [afterL_cons, afterL_nil]
    exact ih.cond.body h1 h2

end Cert.ReferenceIdeal.Hand

end
-- ==== Proof.RRun.lean ====
/-
  The run of the reference: its result at a coordinate is the target of the points, and its argument is kept.
-/
module

public import proofs.«01_k».proof.Proof.RSelect
public import proofs.«01_k».proof.Proof.RSpectral

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Idealize.SL.Sem Idealize.ShloMosaic.StableHlo Cert.Select Cert.Target

variable (m : (ℓ : Loc nD τ sig) → Buf (Elt Ideal) ℓ) (c : Dev nD)

/-- The covariance is symmetric. -/
theorem cv_comm (x : Fin 4096 → Fin 3 → ℝ) (n : Fin 4096) (a b : Fin 3) : cv x n a b = cv x n b a := by
  unfold cv
  exact congrArg (· / 16) (Finset.sum_congr rfl fun k _ => mul_comm _ _)

/-- THE RESULT at a coordinate. -/
theorem final_at (x : Fin 4 → Fin 4096 → Fin 3 → ℝ)
    (hx : ∀ b p a, (m ((c.tc : Thread nD τ).loc main_arg0) : Vec Ideal S4x4096x3 .f32) (ix3 b p a) = ((x b p a : ℝ) : EReal))
    (b : Fin 4) (t : Fin 8) (l : Fin 512) :
    (finalContents condOps preI bodyI postI 28 m c (Proc.devRef .tc main_v78) : Vec Ideal S4x8x1x512 .f32) (ix4 b t (0 : Fin 1) l)
      = target (x b) ⟨t.val * 512 + l.val, by omega⟩ := by
  have hx0 : ∀ p a, (launchContents m c (Proc.devRef .tc main_arg0) : Vec Ideal S4x4096x3 .f32) (ix3 b p a) = ((x b p a : ℝ) : EReal) := hx b
  simp only [finalContents, afterL_cons, afterL_nil]
  refine ratio_at _ b _ _ _ t l (Inv.cond (loop_at b _ _ _ _ ?_ ?_ _ c ?_ 28))
  rotate_left 2
  · simp only [entryContents, afterL_cons, afterL_nil]
    exact enter _ b _ (cv (x b) _) (cv_comm _ _) (fun i j => pre_at (launchContents m c) b _ (x b) hx0 i j)
  · exact (Cert.Closed.r_bound _ _ _ _ _ _).1
  · exact (Cert.Closed.r_bound _ _ _ _ _ _).2

/-- The argument is kept. -/
theorem kept : finalContents condOps preI bodyI postI 28 m c (Proc.devRef .tc main_arg0) = m ((c.tc : Thread nD τ).loc main_arg0) := by
  have hloop : ∀ k, atTrip condOps bodyI (entryContents preI m) k c (Proc.devRef .tc main_arg0) = entryContents preI m c (Proc.devRef .tc main_arg0) := by
    intro k
    induction k with
    | zero => rfl
    | succ k ih =>
      rw [atTrip_succ]
      simp only [afterL_cons, afterL_nil]
      rw [after_of_writes_sub while0Ops0 _ while0Ops0_writes (by decide +kernel), after_of_writes_sub condOps _ condOps_writes (by decide +kernel), ih]
      rfl
  simp only [finalContents, afterL_cons, afterL_nil]
  rw [after_of_writes_sub hostOps0_5 _ (StableHlo.forall_writes_sub_of_map (W := [main_v63, main_v64, main_v65, main_v66, main_cst_15, main_v67, main_v68, main_v69, main_v70, main_cst_16, main_v71, main_v72, main_v73, main_v74, main_v75, main_v76, main_v77, main_v78]) rfl) (by decide +kernel),
    after_of_writes_sub condOps _ condOps_writes (by decide +kernel), hloop]
  simp only [entryContents, afterL_cons, afterL_nil]
  rw [after_of_writes_sub hostOps0_4 _ hostOps0_4_writes (by decide +kernel), after_of_writes_sub hostOps0_3 _ hostOps0_3_writes (by decide +kernel),
    after_of_writes_sub hostOps0_2 _ hostOps0_2_writes (by decide +kernel), after_of_writes_sub hostOps0_1 _ hostOps0_1_writes (by decide +kernel),
    after_of_writes_sub hostOps0 _ hostOps0_writes (by decide +kernel)]

/-- The run: the result is the fold of the operations, and the argument is kept. -/
theorem run (ρ : Dev nD → PrngReg) : θ_run (defs (F := Ideal)) (onTc (τ := τ) (main (F := Ideal))) ⟨m, fun _ => 0, ρ⟩
    (fun r => ∀ c : Dev nD, r.2.mem ((c.tc : Thread nD τ).loc main_v78) = finalContents condOps preI bodyI postI 28 m c (Proc.devRef .tc main_v78)
      ∧ r.2.mem ((c.tc : Thread nD τ).loc main_arg0) = m ((c.tc : Thread nD τ).loc main_arg0)) :=
  (θ_run defs _ _).mono (fun _ h c => ⟨h c main_v78 rfl, (h c main_arg0 rfl).trans (kept m c)⟩) (run_fold m ρ)

end Cert.ReferenceIdeal.Hand

end
-- ==== Proof.Pre.lean ====
/-
  The precondition, read: in every row of distances at most one of the first seventeen sorted steps is a tie; and, since
  that fails for a point at infinity, every coordinate is a real number.
-/
module

public import proofs.«01_k».proof.Proof.Sorting
public import proofs.«01_k».proof.Proof.Target
public import proofs.«01_k».proof.Proof.Gen.Pre_distinct
public import Idealize.ShloMosaic.Lib.Pointwise
public import Idealize.ShloMosaic.Lib.ReduceAll

@[expose] public section

set_option maxRecDepth 16384

noncomputable section

namespace Cert.Pre_distinct.Hand

open Cert.Pre_distinct Cert.Pre_distinct.Gen Idealize.ShloMosaic Cert.Select Cert.Target

variable (A : FVec Ideal S4x4096x3 .f32)

instance : Subsingleton S_.Idx := ⟨fun i j => funext fun a => a.elim0⟩

/-- A bit that is one says its statement. -/
theorem holds_of_bit (p : Prop) [Decidable p] (h : BitVec.ofBool (decide p) = 1#1) : p := by
  by_contra hp
  rw [decide_eq_false hp] at h
  exact absurd h (by decide)

/-- When the count of the steps that do not descend is at most one, at most one step is a tie. -/
theorem few_of_sum {n : Nat} (hn : 17 < n) (d : Fin n → ℝ) (v : Fin 18 → EReal)
    (hv : ∀ k : Fin 18, v k = ((-(d (order d ⟨k.val, lt_of_lt_of_le k.isLt (by omega)⟩)) : ℝ) : EReal))
    (hs : (∑ k : Fin 17, if v ⟨1 + k.val, by omega⟩ < v ⟨k.val, by omega⟩ then (0 : EReal) else 1) ≤ 1) :
    ∀ i j : Fin 17, Tie d hn i → Tie d hn j → i = j := by
  intro i j hi hj
  by_contra hne
  have e : ∀ k : Fin 17, (if v ⟨1 + k.val, by omega⟩ < v ⟨k.val, by omega⟩ then (0 : EReal) else 1)
      = ((if v ⟨1 + k.val, by omega⟩ < v ⟨k.val, by omega⟩ then 0 else 1 : ℝ) : EReal) := fun k => by split <;> rfl
  have one : ∀ k : Fin 17, Tie d hn k → (if v ⟨1 + k.val, by omega⟩ < v ⟨k.val, by omega⟩ then 0 else 1 : ℝ) = 1 := fun k hk => by
    have h' : d (order d ⟨k.val, by omega⟩) = d (order d ⟨1 + k.val, by omega⟩) := by
      have hk' : d (order d ⟨k.val, by omega⟩) = d (order d ⟨k.val + 1, by omega⟩) := hk
      rw [hk']
      exact congrArg d (congrArg (order d) (Fin.ext (Nat.add_comm _ _)))
    rw [hv, hv]
    exact if_neg (by rw [h']; exact lt_irrefl _)
  rw [Finset.sum_congr rfl fun k _ => e k, Cert.Closed.coe_sum, ← EReal.coe_one, EReal.coe_le_coe_iff] at hs
  have h2 : (2 : ℝ) ≤ ∑ k : Fin 17, (if v ⟨1 + k.val, by omega⟩ < v ⟨k.val, by omega⟩ then 0 else 1 : ℝ) := by
    refine le_trans (le_of_eq ?_) (Finset.sum_le_sum_of_subset_of_nonneg (Finset.subset_univ ({i, j} : Finset (Fin 17))) fun k _ _ => ?_)
    · rw [Finset.sum_pair hne, one i hi, one j hj]; norm_num
    · split <;> norm_num
  linarith

/-- A square is not negative. -/
theorem sq_nonneg (a : EReal) : 0 ≤ a * a := by
  rcases le_total 0 a with h | h
  · exact mul_nonneg h h
  · exact EReal.mul_nonneg_iff.mpr (Or.inr ⟨h, h⟩)

/-- A sum of three squares, one of them of an infinite number, is plus infinity. -/
theorem norm_top (v : Fin 3 → EReal) (a : Fin 3) (h : v a = ⊤ ∨ v a = ⊥) : ∑ k : Fin 3, v k * v k = ⊤ := by
  have e : v a * v a = ⊤ := by rcases h with h | h <;> rw [h] <;> rfl
  refine top_le_iff.mp (e ▸ ?_)
  exact Finset.single_le_sum (f := fun k => v k * v k) (fun k _ => sq_nonneg _) (Finset.mem_univ a)

/-- Plus infinity and a number that is not negative, less any number, negated: one of the infinities. -/
theorem inf_dist (s y : EReal) (hs : 0 ≤ s) : -(⊤ + s - y) = ⊤ ∨ -(⊤ + s - y) = ⊥ := by
  rw [EReal.top_add_of_ne_bot (fun h => absurd (h ▸ hs) (by simp))]
  induction y using EReal.rec with
  | bot => exact Or.inr rfl
  | coe r => exact Or.inr rfl
  | top => exact Or.inl rfl

/-- A list of infinities has more than one step that does not descend. -/
theorem many (v : Fin 18 → EReal) (hv : ∀ k, v k = ⊤ ∨ v k = ⊥) :
    ¬ (∑ k : Fin 17, if v ⟨1 + k.val, by omega⟩ < v ⟨k.val, by omega⟩ then (0 : EReal) else 1) ≤ 1 := by
  intro hs
  have e : ∀ k : Fin 17, (if v ⟨1 + k.val, by omega⟩ < v ⟨k.val, by omega⟩ then (0 : EReal) else 1)
      = ((if v ⟨1 + k.val, by omega⟩ < v ⟨k.val, by omega⟩ then 0 else 1 : ℝ) : EReal) := fun k => by split <;> rfl
  rw [Finset.sum_congr rfl fun k _ => e k, Cert.Closed.coe_sum, ← EReal.coe_one, EReal.coe_le_coe_iff] at hs
  have pair : ∀ a b c : EReal, (b = ⊤ ∨ b = ⊥) → (1 : ℝ) ≤ (if b < a then 0 else 1) + (if c < b then 0 else 1) := fun a b c hb => by
    rcases hb with rfl | rfl
    · rw [if_neg (not_lt.mpr le_top)]; split <;> norm_num
    · rw [if_neg (c := c < ⊥) (not_lt.mpr bot_le)]; split <;> norm_num
  have h2 : (2 : ℝ) ≤ ∑ k : Fin 17, (if v ⟨1 + k.val, by omega⟩ < v ⟨k.val, by omega⟩ then 0 else 1 : ℝ) := by
    refine le_trans ?_ (Finset.sum_le_sum_of_subset_of_nonneg (Finset.subset_univ ({0, 1, 2, 3} : Finset (Fin 17))) fun k _ _ => ?_)
    · rw [Finset.sum_insert (by decide), Finset.sum_insert (by decide), Finset.sum_pair (by decide)]
      have h01 := pair (v 0) (v 1) (v 2) (hv 1)
      have h23 := pair (v 2) (v 3) (v 4) (hv 3)
      have h : (2 : ℝ) ≤ (if v 1 < v 0 then 0 else 1) + ((if v 2 < v 1 then 0 else 1) + ((if v 3 < v 2 then 0 else 1) + (if v 4 < v 3 then 0 else 1))) := by
        linarith
      exact h
    · split <;> norm_num
  linarith

/-- Every coordinate is finite: the distances from a point at infinity are infinities, so too many of their steps are ties. -/
theorem finite (h : Cert.Pre_distinct.fn (F := Ideal) A = fun _ => 1#1) (b : Fin 4) (n : Fin 4096) (a : Fin 3) :
    ¬ ((A (ix3 b n a) : EReal) = ⊤ ∨ (A (ix3 b n a) : EReal) = ⊥) := by
  intro ha
  simp only [fn, fn_part1, fn_where] at h
  generalize hD : Host.negf (F := Ideal) (s := S4x4096x4096) (φ := .f32) _ = D at h
  have hd : ∀ p, (D (ix3 b n p) : EReal) = ⊤ ∨ (D (ix3 b n p) : EReal) = ⊥ := fun p => by
    rw [← hD]
    pointwise []
    rw [norm_top (fun k => A (ix3 b n k)) a ha]
    exact inf_dist _ _ (Finset.sum_nonneg fun k _ => sq_nonneg _)
  clear hD
  have ht := fun k : Fin 18 => Cert.Sorting.top_mem (by norm_num) D sliceFits_S4x4096x4096_S4x4096x18 b n k
  generalize Host.topK S4x4096x18 2 _ D _ = T at h ht
  have h1 := Host.reduce_andi_all _ _ reducesTo_S4x4096_S_d0_1 h_S_ (fun a => a.elim0) (congrFun h _) (ix2 b n)
  clear h
  revert h1
  pointwise []
  simp only [id_eq]
  pointwise []
  intro h1
  have h2 := holds_of_bit _ h1
  exact many (fun k => T.1 (ix3 b n k)) (fun k => by obtain ⟨q, hq⟩ := ht k; rw [hq]; exact hd q) h2

/-- At most one. -/
theorem count (x : Fin 4 → Fin 4096 → Fin 3 → ℝ) (hx : ∀ b p a, A (ix3 b p a) = ((x b p a : ℝ) : EReal))
    (h : Cert.Pre_distinct.fn (F := Ideal) A = fun _ => 1#1) (b : Fin 4) (n : Fin 4096) : Few (x b) n := by
  simp only [fn, fn_part1, fn_where] at h
  generalize hD : Host.negf (F := Ideal) (s := S4x4096x4096) (φ := .f32) _ = D at h
  have hd : ∀ p, D (ix3 b n p) = ((-(sqdist (x b) n p) : ℝ) : EReal) := fun p => by
    rw [← hD]
    pointwise []
    simp only [hx, Cert.Closed.k_two, ← EReal.coe_mul, Cert.Closed.coe_sum, ← EReal.coe_add, ← EReal.coe_sub, ← EReal.coe_neg]
    rfl
  clear hD
  have ht := fun k : Fin 18 => (Cert.Sorting.top_at (by norm_num) D sliceFits_S4x4096x4096_S4x4096x18 b n _ hd k).1
  generalize Host.topK S4x4096x18 2 _ D _ = T at h ht
  have h1 := Host.reduce_andi_all _ _ reducesTo_S4x4096_S_d0_1 h_S_ (fun a => a.elim0) (congrFun h _) (ix2 b n)
  clear h
  revert h1
  pointwise []
  simp only [id_eq]
  pointwise []
  intro h1
  have h2 := holds_of_bit _ h1
  exact few_of_sum (by norm_num) _ (fun k => T.1 (ix3 b n k)) ht h2

/-- THE PRECONDITION, READ. -/
theorem reads (h : Cert.Pre_distinct.fn (F := Ideal) A = fun _ => 1#1) :
    ∃ x : Fin 4 → Fin 4096 → Fin 3 → ℝ, (∀ b p a, A (ix3 b p a) = ((x b p a : ℝ) : EReal)) ∧ ∀ b n, Few (x b) n := by
  have hx : ∀ b p a, A (ix3 b p a) = (((A (ix3 b p a) : EReal).toReal : ℝ) : EReal) := fun b p a =>
    (EReal.coe_toReal (fun e => finite A h b p a (Or.inl e)) (fun e => finite A h b p a (Or.inr e))).symm
  exact ⟨fun b p a => (A (ix3 b p a) : EReal).toReal, hx, fun b n => count A _ hx h b n⟩

end Cert.Pre_distinct.Hand

end
-- ==== Proof.lean ====
/-
  The claims about the kernel and its reference: each program runs and keeps its argument, the kernel at the extended reals
  is the kernel with two constants named, and kernel and reference end with the same result at every input of the
  precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_distinct
public import proofs.«01_k».proof.Proof.KValue
public import proofs.«01_k».proof.Proof.RRun
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The kernel runs, keeps its argument and leaves every counter at zero. -/
theorem frame_p : Cert.quiescent_Kernel := fun m ρ _ => Cert.Kernel.Gen.frame m ρ

/-- So does the kernel at the extended reals. -/
theorem frame_pi : Cert.quiescent_KernelIdeal := fun m ρ _ => Cert.KernelIdeal.Gen.frame m ρ
theorem frame_pi_pre : Cert.quiescent_KernelIdeal_pre_distinct := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Hand.run m ρ)
theorem frame_ri_pre : Cert.quiescent_ReferenceIdeal_pre_distinct := fun m ρ _ =>
  (θ_run Cert.ReferenceIdeal.defs _ _).mono (fun r h => ⟨fun c => (h c).2, Idealize.ShloMosaic.sem_eq_zero_of_no_sems (by decide) r.2⟩)
    (Cert.ReferenceIdeal.Hand.run m ρ)

/-- The two named constants are a third and a sixth. -/
theorem preserves : Cert.preserves_Kernel_KernelIdeal :=
  ⟨IdealRules.named_const.statement Cert.KernelIdeal.κ "third" .f32 0x3EAAAAAB#32 ((1 / 3 : ℝ) : EReal) rfl,
    IdealRules.named_const.statement Cert.KernelIdeal.κ "sixth" .f32 0x3E2AAAAB#32 ((1 / 6 : ℝ) : EReal) rfl⟩

/-- THE VALUE CLAIM: at every input of the precondition kernel and reference end with the same result, the ratio of the
    eigenvalues of each point's covariance. -/
theorem algebraic : Cert.algebraic_KernelIdeal_ReferenceIdeal_pre_distinct := by
  intro m ρ m' ρ' hpre hagree
  have hx : ∀ c : Dev Cert.KernelIdeal.nD, ∃ x : Fin 4 → Fin 4096 → Fin 3 → ℝ,
      (∀ b p a, Cert.KernelIdeal.Hand.pt m c b p a = ((x b p a : ℝ) : EReal)) ∧ ∀ b n, Cert.Target.Few (x b) n := fun c =>
    Cert.Pre_distinct.Hand.reads _ (hpre c)
  choose x hx hfew using hx
  refine ⟨fun c => Cert.KernelIdeal.Hand.result (x c), ?_, ?_⟩
  · exact (θ_run Cert.KernelIdeal.defs _ _).mono
      (fun _ h c => ⟨(h c).1.trans (Cert.KernelIdeal.Hand.final m c (x c) (hx c) (hfew c)), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Hand.run m' ρ')
    have hx' : ∀ b p a, (m' ((c.tc : Thread Cert.ReferenceIdeal.nD Cert.ReferenceIdeal.τ).loc Cert.ReferenceIdeal.main_arg0) : Vec Ideal Cert.ReferenceIdeal.S4x4096x3 .f32) (ix3 b p a)
        = ((x c b p a : ℝ) : EReal) := fun b p a => by
      rw [hagree c]; exact hx c b p a
    funext i
    obtain ⟨b, t, u, l, rfl⟩ : ∃ (b : Fin 4) (t : Fin 8) (u : Fin 1) (l : Fin 512), i = ix4 b t u l := ⟨i 0, i 1, i 2, i 3, by
      funext a
      match a with
      | ⟨0, _⟩ => rfl
      | ⟨1, _⟩ => rfl
      | ⟨2, _⟩ => rfl
      | ⟨3, _⟩ => rfl⟩
    obtain rfl : u = 0 := Subsingleton.elim _ _
    exact Cert.ReferenceIdeal.Hand.final_at m' c (x c) hx' b t l

/-- Everything claimed. -/
theorem claim : Cert.Claim :=
  ⟨Cert.Kernel.Gen.facts, Cert.KernelIdeal.Gen.facts, Cert.ReferenceIdeal.Gen.facts, Cert.Pre_distinct.Gen.facts,
    frame_p, frame_pi, frame_pi_pre, frame_ri, frame_ri_pre, preserves, algebraic⟩

end Cert.Proof

end
